-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_boxes_ordered [hPre_boxes_ordered : Cert.Pre_boxes_ordered.Facts] (m : (ℓ : Loc Cert.KernelIdeal.nD Cert.KernelIdeal.τ Cert.KernelIdeal.sig) → Buf (Elt Ideal) ℓ) : Prop :=
  ∀ c : Dev Cert.KernelIdeal.nD,
    (Cert.Pre_boxes_ordered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boxes_ordered [hPre_boxes_ordered : Cert.Pre_boxes_ordered.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boxes_ordered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_boxes_ordered [hKernelIdeal : Cert.KernelIdeal.Facts] [hPre_boxes_ordered : Cert.Pre_boxes_ordered.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_boxes_ordered m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_boxes_ordered [hReferenceIdeal : Cert.ReferenceIdeal.Facts] [hPre_boxes_ordered : Cert.Pre_boxes_ordered.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boxes_ordered m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_boxes_ordered [hKernelIdeal : Cert.KernelIdeal.Facts] [hReferenceIdeal : Cert.ReferenceIdeal.Facts] [hPre_boxes_ordered : Cert.Pre_boxes_ordered.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_boxes_ordered m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_values_4)) (v1 : (c : Dev Cert.KernelIdeal.nD) → Buf (Elt Ideal) ((c.tc : Thread Cert.KernelIdeal.nD Cert.KernelIdeal.τ).loc Cert.KernelIdeal.main_v49)) (v2 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_values_4) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_v56) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values_39) = v0 c
          ∧ r.2.mem ((c.tc : Thread Cert.ReferenceIdeal.nD Cert.ReferenceIdeal.τ).loc Cert.ReferenceIdeal.main_v207) = v1 c
          ∧ r.2.mem ((c.tc : Thread Cert.ReferenceIdeal.nD Cert.ReferenceIdeal.τ).loc Cert.ReferenceIdeal.main_v214) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_boxes_ordered : Cert.Pre_boxes_ordered.Facts),
    quiescent_Kernel (hKernel := hKernel)
    ∧ quiescent_KernelIdeal (hKernelIdeal := hKernelIdeal)
    ∧ quiescent_KernelIdeal_pre_boxes_ordered (hKernelIdeal := hKernelIdeal) (hPre_boxes_ordered := hPre_boxes_ordered)
    ∧ quiescent_ReferenceIdeal (hReferenceIdeal := hReferenceIdeal)
    ∧ quiescent_ReferenceIdeal_pre_boxes_ordered (hReferenceIdeal := hReferenceIdeal) (hPre_boxes_ordered := hPre_boxes_ordered)
    ∧ preserves_Kernel_KernelIdeal
    ∧ algebraic_KernelIdeal_ReferenceIdeal_pre_boxes_ordered (hKernelIdeal := hKernelIdeal) (hReferenceIdeal := hReferenceIdeal) (hPre_boxes_ordered := hPre_boxes_ordered)
-- ==== Pre_boxes_ordered.lean ====
abbrev S20000x81 : Shape := ⟨2, ![20000, 81]⟩
abbrev S20000x324 : Shape := ⟨2, ![20000, 324]⟩
abbrev S20000x4 : Shape := ⟨2, ![20000, 4]⟩
abbrev S20000x1 : Shape := ⟨2, ![20000, 1]⟩
abbrev S_ : Shape := ⟨0, ![]⟩

class Facts : Prop where
  slices_S20000x4_S20000x1_0_2 : S20000x4.Slices ![0, 2] S20000x1
  slices_S20000x4_S20000x1_0_0 : S20000x4.Slices ![0, 0] S20000x1
  bcast_S_S20000x1 : S_.BroadcastsInDim S20000x1 (![] : Fin 0 → Fin S20000x1.rank)
  slices_S20000x4_S20000x1_0_3 : S20000x4.Slices ![0, 3] S20000x1
  slices_S20000x4_S20000x1_0_1 : S20000x4.Slices ![0, 1] S20000x1

variable [Facts]

def fn {F : FTy → Type} [FloatOps F] (main_arg0 : FVec F S20000x81 .f32) (main_arg1 : FVec F S20000x324 .f32) (main_arg2 : FVec F S20000x4 .f32) : IVec S20000x1 1 :=
  let main_v0 : FVec F S20000x1 .f32 := (extractStridedSlice S20000x1 ![0, 2] · slices_S20000x4_S20000x1_0_2) main_arg2
  let main_v1 : FVec F S20000x1 .f32 := (extractStridedSlice S20000x1 ![0, 0] · slices_S20000x4_S20000x1_0_0) main_arg2
  let main_v2 : FVec F S20000x1 .f32 := subf main_v0 main_v1
  let main_cst : FVec F S_ .f32 := constant S_ .f32 0x3F800000#32
  let main_v3 : FVec F S20000x1 .f32 := broadcastInDim S20000x1 ![] bcast_S_S20000x1 main_cst
  let main_v4 : FVec F S20000x1 .f32 := addf main_v2 main_v3
  let main_v5 : FVec F S20000x1 .f32 := (extractStridedSlice S20000x1 ![0, 3] · slices_S20000x4_S20000x1_0_3) main_arg2
  let main_v6 : FVec F S20000x1 .f32 := (extractStridedSlice S20000x1 ![0, 1] · slices_S20000x4_S20000x1_0_1) main_arg2
  let main_v7 : FVec F S20000x1 .f32 := subf main_v5 main_v6
  let main_cst_0 : FVec F S_ .f32 := constant S_ .f32 0x3F800000#32
  let main_v8 : FVec F S20000x1 .f32 := broadcastInDim S20000x1 ![] bcast_S_S20000x1 main_cst_0
  let main_v9 : FVec F S20000x1 .f32 := addf main_v7 main_v8
  let main_cst_1 : FVec F S_ .f32 := constant S_ .f32 0x00000000#32
  let main_v10 : FVec F S20000x1 .f32 := broadcastInDim S20000x1 ![] bcast_S_S20000x1 main_cst_1
  let main_v11 : IVec S20000x1 1 := cmpf .oge main_v4 main_v10
  let main_cst_2 : FVec F S_ .f32 := constant S_ .f32 0x00000000#32
  let main_v12 : FVec F S20000x1 .f32 := broadcastInDim S20000x1 ![] bcast_S_S20000x1 main_cst_2
  let main_v13 : IVec S20000x1 1 := cmpf .oge main_v9 main_v12
  let main_v14 : IVec S20000x1 1 := andi main_v11 main_v13
  main_v14
-- ==== Kernel.lean ====
abbrev S20000x81 : Shape := ⟨2, ![20000, 81]⟩
abbrev S20000x324 : Shape := ⟨2, ![20000, 324]⟩
abbrev S20000x4 : Shape := ⟨2, ![20000, 4]⟩
abbrev S20000x81x4 : Shape := ⟨3, ![20000, 81, 4]⟩
abbrev S4x20000x81 : Shape := ⟨3, ![4, 20000, 81]⟩
abbrev S2000x81 : Shape := ⟨2, ![2000, 81]⟩
abbrev S4x2000x81 : Shape := ⟨3, ![4, 2000, 81]⟩
abbrev S2000x4 : Shape := ⟨2, ![2000, 4]⟩
abbrev S2000 : Shape := ⟨1, ![2000]⟩
abbrev S2000x1 : Shape := ⟨2, ![2000, 1]⟩
abbrev S1x2000x81 : Shape := ⟨3, ![1, 2000, 81]⟩
abbrev S81x20000 : Shape := ⟨2, ![81, 20000]⟩
abbrev S80x20000 : Shape := ⟨2, ![80, 20000]⟩
abbrev S20000x81x1 : Shape := ⟨3, ![20000, 81, 1]⟩
abbrev S81x20000x4 : Shape := ⟨3, ![81, 20000, 4]⟩
abbrev S80x20000x4 : Shape := ⟨3, ![80, 20000, 4]⟩
abbrev S_ : Shape := ⟨0, ![]⟩
abbrev S80x500 : Shape := ⟨2, ![80, 500]⟩
abbrev S80x500x1 : Shape := ⟨3, ![80, 500, 1]⟩
abbrev S1 : Shape := ⟨1, ![1]⟩
abbrev S1x1x1 : Shape := ⟨3, ![1, 1, 1]⟩
abbrev S80x500x4 : Shape := ⟨3, ![80, 500, 4]⟩
abbrev S4x500x80 : Shape := ⟨3, ![4, 500, 80]⟩
abbrev S500x80 : Shape := ⟨2, ![500, 80]⟩
abbrev S1x500x80 : Shape := ⟨3, ![1, 500, 80]⟩
abbrev S1x80 : Shape := ⟨2, ![1, 80]⟩
abbrev S80 : Shape := ⟨1, ![80]⟩
abbrev S40000 : Shape := ⟨1, ![40000]⟩
abbrev S40000x4 : Shape := ⟨2, ![40000, 4]⟩
abbrev S80x1 : Shape := ⟨2, ![80, 1]⟩
abbrev S100 : Shape := ⟨1, ![100]⟩
abbrev S100x1 : Shape := ⟨2, ![100, 1]⟩
abbrev S100x4 : Shape := ⟨2, ![100, 4]⟩

abbrev nBuf : Space → Nat
  | .hbm => 103
  | .vmem => 22
  | .smem => 0
  | _ => 0

abbrev bufTy : (tb : Table) → Fin (tcTables nBuf tb) → BufTy
  | .hbm, ⟨0, _⟩ => ⟨S20000x81, .f32⟩
  | .hbm, ⟨1, _⟩ => ⟨S20000x324, .f32⟩
  | .hbm, ⟨2, _⟩ => ⟨S20000x4, .f32⟩
  | .hbm, ⟨3, _⟩ => ⟨S20000x81x4, .f32⟩
  | .hbm, ⟨4, _⟩ => ⟨S4x20000x81, .f32⟩
  | .hbm, ⟨5, _⟩ => ⟨S20000x81, .f32⟩
  | .hbm, ⟨6, _⟩ => ⟨S20000x81, .f32⟩
  | .hbm, ⟨7, _⟩ => ⟨S20000x81, .f32⟩
  | .hbm, ⟨8, _⟩ => ⟨S20000x81, .f32⟩
  | .hbm, ⟨9, _⟩ => ⟨S20000x81, .f32⟩
  | .hbm, ⟨10, _⟩ => ⟨S81x20000, .f32⟩
  | .hbm, ⟨11, _⟩ => ⟨S80x20000, .f32⟩
  | .hbm, ⟨12, _⟩ => ⟨S20000x81x1, .f32⟩
  | .hbm, ⟨13, _⟩ => ⟨S20000x81x1, .f32⟩
  | .hbm, ⟨14, _⟩ => ⟨S20000x81x1, .f32⟩
  | .hbm, ⟨15, _⟩ => ⟨S20000x81x1, .f32⟩
  | .hbm, ⟨16, _⟩ => ⟨S20000x81x4, .f32⟩
  | .hbm, ⟨17, _⟩ => ⟨S81x20000x4, .f32⟩
  | .hbm, ⟨18, _⟩ => ⟨S80x20000x4, .f32⟩
  | .hbm, ⟨19, _⟩ => ⟨S_, .f32⟩
  | .hbm, ⟨20, _⟩ => ⟨S80x20000, .f32⟩
  | .hbm, ⟨21, _⟩ => ⟨S80x20000, .i1⟩
  | .hbm, ⟨22, _⟩ => ⟨S_, .f32⟩
  | .hbm, ⟨23, _⟩ => ⟨S_, .f32⟩
  | .hbm, ⟨24, _⟩ => ⟨S80x20000, .f32⟩
  | .hbm, ⟨25, _⟩ => ⟨S80x20000, .f32⟩
  | .hbm, ⟨26, _⟩ => ⟨S80x500, .f32⟩
  | .hbm, ⟨27, _⟩ => ⟨S80x500, .i32⟩
  | .hbm, ⟨28, _⟩ => ⟨S_, .f32⟩
  | .hbm, ⟨29, _⟩ => ⟨S80x500, .f32⟩
  | .hbm, ⟨30, _⟩ => ⟨S80x500, .i1⟩
  | .hbm, ⟨31, _⟩ => ⟨S80x500, .f32⟩
  | .hbm, ⟨32, _⟩ => ⟨S80x500x1, .i32⟩
  | .hbm, ⟨33, _⟩ => ⟨S_, .i32⟩
  | .hbm, ⟨34, _⟩ => ⟨S80x500x1, .i32⟩
  | .hbm, ⟨35, _⟩ => ⟨S80x500x1, .i1⟩
  | .hbm, ⟨36, _⟩ => ⟨S_, .i32⟩
  | .hbm, ⟨37, _⟩ => ⟨S80x500x1, .i32⟩
  | .hbm, ⟨38, _⟩ => ⟨S80x500x1, .i32⟩
  | .hbm, ⟨39, _⟩ => ⟨S80x500x1, .i32⟩
  | .hbm, ⟨40, _⟩ => ⟨S1, .i32⟩
  | .hbm, ⟨41, _⟩ => ⟨S_, .i32⟩
  | .hbm, ⟨42, _⟩ => ⟨S80x500x1, .i32⟩
  | .hbm, ⟨43, _⟩ => ⟨S80x500x1, .i1⟩
  | .hbm, ⟨44, _⟩ => ⟨S1x1x1, .i32⟩
  | .hbm, ⟨45, _⟩ => ⟨S80x500x1, .i32⟩
  | .hbm, ⟨46, _⟩ => ⟨S80x500x1, .i1⟩
  | .hbm, ⟨47, _⟩ => ⟨S80x500x1, .i1⟩
  | .hbm, ⟨48, _⟩ => ⟨S_, .i1⟩
  | .hbm, ⟨49, _⟩ => ⟨S80x500, .i1⟩
  | .hbm, ⟨50, _⟩ => ⟨S80x500x4, .f32⟩
  | .hbm, ⟨51, _⟩ => ⟨S80x500x4, .i1⟩
  | .hbm, ⟨52, _⟩ => ⟨S_, .f32⟩
  | .hbm, ⟨53, _⟩ => ⟨S80x500x4, .f32⟩
  | .hbm, ⟨54, _⟩ => ⟨S80x500x4, .f32⟩
  | .hbm, ⟨55, _⟩ => ⟨S4x500x80, .f32⟩
  | .hbm, ⟨56, _⟩ => ⟨S500x80, .f32⟩
  | .hbm, ⟨57, _⟩ => ⟨S1x500x80, .f32⟩
  | .hbm, ⟨58, _⟩ => ⟨S500x80, .f32⟩
  | .hbm, ⟨59, _⟩ => ⟨S1x500x80, .f32⟩
  | .hbm, ⟨60, _⟩ => ⟨S500x80, .f32⟩
  | .hbm, ⟨61, _⟩ => ⟨S1x500x80, .f32⟩
  | .hbm, ⟨62, _⟩ => ⟨S500x80, .f32⟩
  | .hbm, ⟨63, _⟩ => ⟨S1x500x80, .f32⟩
  | .hbm, ⟨64, _⟩ => ⟨S500x80, .f32⟩
  | .hbm, ⟨65, _⟩ => ⟨S500x80, .f32⟩
  | .hbm, ⟨66, _⟩ => ⟨S80x500, .f32⟩
  | .hbm, ⟨67, _⟩ => ⟨S_, .f32⟩
  | .hbm, ⟨68, _⟩ => ⟨S80x500, .f32⟩
  | .hbm, ⟨69, _⟩ => ⟨S80x500, .i1⟩
  | .hbm, ⟨70, _⟩ => ⟨S_, .f32⟩
  | .hbm, ⟨71, _⟩ => ⟨S_, .f32⟩
  | .hbm, ⟨72, _⟩ => ⟨S80x500, .f32⟩
  | .hbm, ⟨73, _⟩ => ⟨S80x500, .f32⟩
  | .hbm, ⟨74, _⟩ => ⟨S40000, .f32⟩
  | .hbm, ⟨75, _⟩ => ⟨S40000x4, .f32⟩
  | .hbm, ⟨76, _⟩ => ⟨S80, .i32⟩
  | .hbm, ⟨77, _⟩ => ⟨S_, .i32⟩
  | .hbm, ⟨78, _⟩ => ⟨S80, .i32⟩
  | .hbm, ⟨79, _⟩ => ⟨S80, .i32⟩
  | .hbm, ⟨80, _⟩ => ⟨S80x1, .i32⟩
  | .hbm, ⟨81, _⟩ => ⟨S80x500, .i32⟩
  | .hbm, ⟨82, _⟩ => ⟨S40000, .i32⟩
  | .hbm, ⟨83, _⟩ => ⟨S100, .f32⟩
  | .hbm, ⟨84, _⟩ => ⟨S100, .i32⟩
  | .hbm, ⟨85, _⟩ => ⟨S_, .i32⟩
  | .hbm, ⟨86, _⟩ => ⟨S100, .i32⟩
  | .hbm, ⟨87, _⟩ => ⟨S100, .i1⟩
  | .hbm, ⟨88, _⟩ => ⟨S_, .i32⟩
  | .hbm, ⟨89, _⟩ => ⟨S100, .i32⟩
  | .hbm, ⟨90, _⟩ => ⟨S100, .i32⟩
  | .hbm, ⟨91, _⟩ => ⟨S100, .i32⟩
  | .hbm, ⟨92, _⟩ => ⟨S100x1, .i32⟩
  | .hbm, ⟨93, _⟩ => ⟨S100x4, .f32⟩
  | .hbm, ⟨94, _⟩ => ⟨S_, .i32⟩
  | .hbm, ⟨95, _⟩ => ⟨S100, .i32⟩
  | .hbm, ⟨96, _⟩ => ⟨S100, .i1⟩
  | .hbm, ⟨97, _⟩ => ⟨S_, .i32⟩
  | .hbm, ⟨98, _⟩ => ⟨S100, .i32⟩
  | .hbm, ⟨99, _⟩ => ⟨S100, .i32⟩
  | .hbm, ⟨100, _⟩ => ⟨S100, .i32⟩
  | .hbm, ⟨101, _⟩ => ⟨S100x1, .i32⟩
  | .hbm, ⟨102, _⟩ => ⟨S100, .i32⟩
  | .local _ .vmem, ⟨0, _⟩ => ⟨S2000x81, .f32⟩
  | .local _ .vmem, ⟨1, _⟩ => ⟨S2000x81, .f32⟩
  | .local _ .vmem, ⟨2, _⟩ => ⟨S4x2000x81, .f32⟩
  | .local _ .vmem, ⟨3, _⟩ => ⟨S4x2000x81, .f32⟩
  | .local _ .vmem, ⟨4, _⟩ => ⟨S2000x4, .f32⟩
  | .local _ .vmem, ⟨5, _⟩ => ⟨S2000x4, .f32⟩
  | .local _ .vmem, ⟨6, _⟩ => ⟨S2000x81, .f32⟩
  | .local _ .vmem, ⟨7, _⟩ => ⟨S2000x81, .f32⟩
  | .local _ .vmem, ⟨8, _⟩ => ⟨S2000x81, .f32⟩
  | .local _ .vmem, ⟨9, _⟩ => ⟨S2000x81, .f32⟩
  | .local _ .vmem, ⟨10, _⟩ => ⟨S2000x81, .f32⟩
  | .local _ .vmem, ⟨11, _⟩ => ⟨S2000x81, .f32⟩
  | .local _ .vmem, ⟨12, _⟩ => ⟨S2000x81, .f32⟩
  | .local _ .vmem, ⟨13, _⟩ => ⟨S2000x81, .f32⟩
  | .local _ .vmem, ⟨14, _⟩ => ⟨S2000x81, .f32⟩
  | .local _ .vmem, ⟨15, _⟩ => ⟨S2000x81, .f32⟩
  | .local _ .vmem, ⟨16, _⟩ => ⟨S500x80, .f32⟩
  | .local _ .vmem, ⟨17, _⟩ => ⟨S500x80, .f32⟩
  | .local _ .vmem, ⟨18, _⟩ => ⟨S500x80, .f32⟩
  | .local _ .vmem, ⟨19, _⟩ => ⟨S500x80, .f32⟩
  | .local _ .vmem, ⟨20, _⟩ => ⟨S500x80, .f32⟩
  | .local _ .vmem, ⟨21, _⟩ => ⟨S500x80, .f32⟩
  | _, _ => ⟨S20000x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_values : Ref sig .tc := ⟨.hbm, 26, rfl⟩
abbrev main_indices : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_c_1 : Ref sig .tc := ⟨.hbm, 40, rfl⟩
abbrev main_call1_c_2 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_c_3 : Ref sig .tc := ⟨.hbm, 48, rfl⟩
abbrev main_call1_v11 : Ref sig .tc := ⟨.hbm, 49, rfl⟩
abbrev main_call1_v12 : Ref sig .tc := ⟨.hbm, 50, rfl⟩
abbrev main_call1_v13 : Ref sig .tc := ⟨.hbm, 51, rfl⟩
abbrev main_call1_cst : Ref sig .tc := ⟨.hbm, 52, rfl⟩
abbrev main_call1_v14 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst_2 : Ref sig .tc := ⟨.hbm, 67, rfl⟩
abbrev main_v32 : Ref sig .tc := ⟨.hbm, 68, rfl⟩
abbrev main_v33 : Ref sig .tc := ⟨.hbm, 69, rfl⟩
abbrev main_cst_3 : Ref sig .tc := ⟨.hbm, 70, rfl⟩
abbrev main_call2_v0 : Ref sig .tc := ⟨.hbm, 71, rfl⟩
abbrev main_call2_v1 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_c : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_values_4 : Ref sig .tc := ⟨.hbm, 83, rfl⟩
abbrev main_indices_5 : Ref sig .tc := ⟨.hbm, 84, rfl⟩
abbrev main_c_6 : Ref sig .tc := ⟨.hbm, 85, rfl⟩
abbrev main_v43 : Ref sig .tc := ⟨.hbm, 86, rfl⟩
abbrev main_v44 : Ref sig .tc := ⟨.hbm, 87, rfl⟩
abbrev main_c_7 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_c_8 : Ref sig .tc := ⟨.hbm, 94, rfl⟩
abbrev main_v50 : Ref sig .tc := ⟨.hbm, 95, rfl⟩
abbrev main_v51 : Ref sig .tc := ⟨.hbm, 96, rfl⟩
abbrev main_c_9 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x81 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x2000x81 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x81 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x81 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x81 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x81 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x81 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := .none

@[reducible] def k1_t1_loop : Scf.Loop 32 :=
  let c0_i32 : BitVec 32 := 0#32
  let c500_i32 : BitVec 32 := 500#32
  let v17 : BitVec 32 := Scalar.addi c0_i32 c500_i32
  let c1_i32 : BitVec 32 := 1#32
  ⟨c0_i32, v17, c1_i32⟩
def k1_off1 (k1_t1 : Fin k1_t1_loop.trips) : Fin 2 → Nat :=
  let c0_i32 : BitVec 32 := 0#32
  let c1_i32 : BitVec 32 := 1#32
  let arg6 : BitVec 32 := Scf.iv c0_i32 c1_i32 k1_t1
  let v18 : Index := Scalar.indexCast arg6
  let c0_12 : Index := 0#32
  ![v18.toNat, 0]
abbrev stage1_0 : Fin 1 → Memref sig .tc .vmem S500x80 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S500x80 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S500x80 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S500x80 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S500x80 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S500x80 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
-- ==== ReferenceIdeal.lean ====
abbrev S20000x81 : Shape := ⟨2, ![20000, 81]⟩
abbrev S20000x324 : Shape := ⟨2, ![20000, 324]⟩
abbrev S20000x4 : Shape := ⟨2, ![20000, 4]⟩
abbrev S_ : Shape := ⟨0, ![]⟩
abbrev S20000 : Shape := ⟨1, ![20000]⟩
abbrev S20000x1 : Shape := ⟨2, ![20000, 1]⟩
abbrev S20000x81x1 : Shape := ⟨3, ![20000, 81, 1]⟩
abbrev S20000x81x4 : Shape := ⟨3, ![20000, 81, 4]⟩
abbrev S81x20000 : Shape := ⟨2, ![81, 20000]⟩
abbrev S80x20000 : Shape := ⟨2, ![80, 20000]⟩
abbrev S81x20000x4 : Shape := ⟨3, ![81, 20000, 4]⟩
abbrev S80x20000x4 : Shape := ⟨3, ![80, 20000, 4]⟩
abbrev S80x500 : Shape := ⟨2, ![80, 500]⟩
abbrev S80x500x1 : Shape := ⟨3, ![80, 500, 1]⟩
abbrev S1 : Shape := ⟨1, ![1]⟩
abbrev S1x1x1 : Shape := ⟨3, ![1, 1, 1]⟩
abbrev S80x500x4 : Shape := ⟨3, ![80, 500, 4]⟩
abbrev S80x1x500 : Shape := ⟨3, ![80, 1, 500]⟩
abbrev S80x500x500 : Shape := ⟨3, ![80, 500, 500]⟩
abbrev S500 : Shape := ⟨1, ![500]⟩
abbrev S1x500 : Shape := ⟨2, ![1, 500]⟩
abbrev S80 : Shape := ⟨1, ![80]⟩
abbrev S80x1 : Shape := ⟨2, ![80, 1]⟩
abbrev S40000 : Shape := ⟨1, ![40000]⟩
abbrev S40000x4 : Shape := ⟨2, ![40000, 4]⟩
abbrev S100 : Shape := ⟨1, ![100]⟩
abbrev S100x1 : Shape := ⟨2, ![100, 1]⟩
abbrev S100x4 : Shape := ⟨2, ![100, 4]⟩

abbrev nBuf : Space → Nat
  | .hbm => 364
  | .vmem => 0
  | .smem => 0
  | _ => 0

abbrev hbmTy0_0 (i : Nat) : BufTy := match i % 128 with
  | 0 => ⟨S20000x81, .f32⟩
  | 1 => ⟨S20000x324, .f32⟩
  | 2 => ⟨S20000x4, .f32⟩
  | 3 => ⟨S_, .f32⟩
  | 4 => ⟨S20000, .f32⟩
  | 5 => ⟨S_, .f32⟩
  | 6 => ⟨S20000, .f32⟩
  | 7 => ⟨S20000, .f32⟩
  | 8 => ⟨S20000x1, .f32⟩
  | 9 => ⟨S20000x81, .f32⟩
  | 10 => ⟨S20000x81, .f32⟩
  | 11 => ⟨S20000x81, .f32⟩
  | 12 => ⟨S_, .f32⟩
  | 13 => ⟨S20000, .f32⟩
  | 14 => ⟨S20000x1, .f32⟩
  | 15 => ⟨S20000x81, .f32⟩
  | 16 => ⟨S20000x81, .f32⟩
  | 17 => ⟨S20000x1, .f32⟩
  | 18 => ⟨S20000, .f32⟩
  | 19 => ⟨S20000x1, .f32⟩
  | 20 => ⟨S20000, .f32⟩
  | 21 => ⟨S20000, .f32⟩
  | 22 => ⟨S_, .f32⟩
  | 23 => ⟨S20000, .f32⟩
  | 24 => ⟨S20000, .f32⟩
  | 25 => ⟨S20000x1, .f32⟩
  | 26 => ⟨S20000, .f32⟩
  | 27 => ⟨S20000x1, .f32⟩
  | 28 => ⟨S20000, .f32⟩
  | 29 => ⟨S20000, .f32⟩
  | 30 => ⟨S_, .f32⟩
  | 31 => ⟨S20000, .f32⟩
  | 32 => ⟨S20000, .f32⟩
  | 33 => ⟨S20000x1, .f32⟩
  | 34 => ⟨S20000, .f32⟩
  | 35 => ⟨S_, .f32⟩
  | 36 => ⟨S20000, .f32⟩
  | 37 => ⟨S20000, .f32⟩
  | 38 => ⟨S20000, .f32⟩
  | 39 => ⟨S20000x1, .f32⟩
  | 40 => ⟨S20000, .f32⟩
  | 41 => ⟨S_, .f32⟩
  | 42 => ⟨S20000, .f32⟩
  | 43 => ⟨S20000, .f32⟩
  | 44 => ⟨S20000, .f32⟩
  | 45 => ⟨S20000x81, .f32⟩
  | 46 => ⟨S_, .f32⟩
  | 47 => ⟨S20000x81, .f32⟩
  | 48 => ⟨S20000x81, .f32⟩
  | 49 => ⟨S20000x81, .f32⟩
  | 50 => ⟨S_, .f32⟩
  | 51 => ⟨S20000x81, .f32⟩
  | 52 => ⟨S20000x81, .f32⟩
  | 53 => ⟨S20000x81, .f32⟩
  | 54 => ⟨S_, .f32⟩
  | 55 => ⟨S20000x81, .f32⟩
  | 56 => ⟨S20000x81, .f32⟩
  | 57 => ⟨S_, .f32⟩
  | 58 => ⟨S20000x81, .f32⟩
  | 59 => ⟨S20000x81, .f32⟩
  | 60 => ⟨S20000x81, .f32⟩
  | 61 => ⟨S_, .f32⟩
  | 62 => ⟨S20000x81, .f32⟩
  | 63 => ⟨S20000x81, .f32⟩
  | 64 => ⟨S_, .f32⟩
  | 65 => ⟨S20000x81, .f32⟩
  | 66 => ⟨S20000x81, .f32⟩
  | 67 => ⟨S20000x1, .f32⟩
  | 68 => ⟨S20000x81, .f32⟩
  | 69 => ⟨S20000x81, .f32⟩
  | 70 => ⟨S20000x1, .f32⟩
  | 71 => ⟨S20000x81, .f32⟩
  | 72 => ⟨S20000x81, .f32⟩
  | 73 => ⟨S20000x1, .f32⟩
  | 74 => ⟨S20000x81, .f32⟩
  | 75 => ⟨S20000x81, .f32⟩
  | 76 => ⟨S20000x1, .f32⟩
  | 77 => ⟨S20000x81, .f32⟩
  | 78 => ⟨S20000x81, .f32⟩
  | 79 => ⟨S20000x81, .f32⟩
  | 80 => ⟨S20000x1, .f32⟩
  | 81 => ⟨S20000x81, .f32⟩
  | 82 => ⟨S20000x81, .f32⟩
  | 83 => ⟨S20000x81, .f32⟩
  | 84 => ⟨S20000x1, .f32⟩
  | 85 => ⟨S20000x81, .f32⟩
  | 86 => ⟨S20000x81, .f32⟩
  | 87 => ⟨S_, .f32⟩
  | 88 => ⟨S20000x81, .f32⟩
  | 89 => ⟨S20000x81, .f32⟩
  | 90 => ⟨S20000x81, .f32⟩
  | 91 => ⟨S_, .f32⟩
  | 92 => ⟨S20000x81, .f32⟩
  | 93 => ⟨S20000x81, .f32⟩
  | 94 => ⟨S20000x81, .f32⟩
  | 95 => ⟨S_, .f32⟩
  | 96 => ⟨S20000x81, .f32⟩
  | 97 => ⟨S20000x81, .f32⟩
  | 98 => ⟨S20000x81, .f32⟩
  | 99 => ⟨S_, .f32⟩
  | 100 => ⟨S20000x81, .f32⟩
  | 101 => ⟨S20000x81, .f32⟩
  | 102 => ⟨S_, .f32⟩
  | 103 => ⟨S20000x81, .f32⟩
  | 104 => ⟨S20000x81, .f32⟩
  | 105 => ⟨S20000x81, .f32⟩
  | 106 => ⟨S_, .f32⟩
  | 107 => ⟨S20000x81, .f32⟩
  | 108 => ⟨S20000x81, .f32⟩
  | 109 => ⟨S20000x81x1, .f32⟩
  | 110 => ⟨S20000x81x1, .f32⟩
  | 111 => ⟨S20000x81x1, .f32⟩
  | 112 => ⟨S20000x81x1, .f32⟩
  | 113 => ⟨S20000x81x4, .f32⟩
  | 114 => ⟨S20000x81x1, .f32⟩
  | 115 => ⟨S20000x81, .f32⟩
  | 116 => ⟨S_, .f32⟩
  | 117 => ⟨S_, .f32⟩
  | 118 => ⟨S_, .f32⟩
  | 119 => ⟨S20000x81, .f32⟩
  | 120 => ⟨S20000x81, .f32⟩
  | 121 => ⟨S_, .f32⟩
  | 122 => ⟨S20000x81, .f32⟩
  | 123 => ⟨S20000x81, .f32⟩
  | 124 => ⟨S20000x81x1, .f32⟩
  | 125 => ⟨S20000x81, .f32⟩
  | 126 => ⟨S_, .f32⟩
  | 127 => ⟨S_, .f32⟩
  | _ => ⟨S20000x81, .f32⟩

abbrev hbmTy0_1 (i : Nat) : BufTy := match i % 128 with
  | 0 => ⟨S_, .f32⟩
  | 1 => ⟨S20000x81, .f32⟩
  | 2 => ⟨S20000x81, .f32⟩
  | 3 => ⟨S_, .f32⟩
  | 4 => ⟨S20000x81, .f32⟩
  | 5 => ⟨S20000x81, .f32⟩
  | 6 => ⟨S20000x81x1, .f32⟩
  | 7 => ⟨S20000x81, .f32⟩
  | 8 => ⟨S_, .f32⟩
  | 9 => ⟨S_, .f32⟩
  | 10 => ⟨S_, .f32⟩
  | 11 => ⟨S20000x81, .f32⟩
  | 12 => ⟨S20000x81, .f32⟩
  | 13 => ⟨S_, .f32⟩
  | 14 => ⟨S20000x81, .f32⟩
  | 15 => ⟨S20000x81, .f32⟩
  | 16 => ⟨S20000x81x1, .f32⟩
  | 17 => ⟨S20000x81, .f32⟩
  | 18 => ⟨S_, .f32⟩
  | 19 => ⟨S_, .f32⟩
  | 20 => ⟨S_, .f32⟩
  | 21 => ⟨S20000x81, .f32⟩
  | 22 => ⟨S20000x81, .f32⟩
  | 23 => ⟨S_, .f32⟩
  | 24 => ⟨S20000x81, .f32⟩
  | 25 => ⟨S20000x81, .f32⟩
  | 26 => ⟨S20000x81x1, .f32⟩
  | 27 => ⟨S20000x81x1, .f32⟩
  | 28 => ⟨S20000x81x1, .f32⟩
  | 29 => ⟨S20000x81x1, .f32⟩
  | 30 => ⟨S20000x81x4, .f32⟩
  | 31 => ⟨S81x20000, .f32⟩
  | 32 => ⟨S80x20000, .f32⟩
  | 33 => ⟨S81x20000x4, .f32⟩
  | 34 => ⟨S80x20000x4, .f32⟩
  | 35 => ⟨S_, .f32⟩
  | 36 => ⟨S80x20000, .f32⟩
  | 37 => ⟨S80x20000, .i1⟩
  | 38 => ⟨S_, .f32⟩
  | 39 => ⟨S_, .f32⟩
  | 40 => ⟨S80x20000, .f32⟩
  | 41 => ⟨S80x20000, .f32⟩
  | 42 => ⟨S80x500, .f32⟩
  | 43 => ⟨S80x500, .i32⟩
  | 44 => ⟨S_, .f32⟩
  | 45 => ⟨S80x500, .f32⟩
  | 46 => ⟨S80x500, .i1⟩
  | 47 => ⟨S80x500x1, .i32⟩
  | 48 => ⟨S_, .i32⟩
  | 49 => ⟨S80x500x1, .i32⟩
  | 50 => ⟨S80x500x1, .i1⟩
  | 51 => ⟨S_, .i32⟩
  | 52 => ⟨S80x500x1, .i32⟩
  | 53 => ⟨S80x500x1, .i32⟩
  | 54 => ⟨S80x500x1, .i32⟩
  | 55 => ⟨S1, .i32⟩
  | 56 => ⟨S_, .i32⟩
  | 57 => ⟨S80x500x1, .i32⟩
  | 58 => ⟨S80x500x1, .i1⟩
  | 59 => ⟨S1x1x1, .i32⟩
  | 60 => ⟨S80x500x1, .i32⟩
  | 61 => ⟨S80x500x1, .i1⟩
  | 62 => ⟨S80x500x1, .i1⟩
  | 63 => ⟨S_, .i1⟩
  | 64 => ⟨S80x500, .i1⟩
  | 65 => ⟨S80x500x4, .f32⟩
  | 66 => ⟨S80x500x4, .i1⟩
  | 67 => ⟨S_, .f32⟩
  | 68 => ⟨S80x500x4, .f32⟩
  | 69 => ⟨S80x500x4, .f32⟩
  | 70 => ⟨S80x500x1, .f32⟩
  | 71 => ⟨S80x500, .f32⟩
  | 72 => ⟨S80x500x1, .f32⟩
  | 73 => ⟨S80x500, .f32⟩
  | 74 => ⟨S80x500, .f32⟩
  | 75 => ⟨S_, .f32⟩
  | 76 => ⟨S80x500, .f32⟩
  | 77 => ⟨S80x500, .f32⟩
  | 78 => ⟨S80x500x1, .f32⟩
  | 79 => ⟨S80x500, .f32⟩
  | 80 => ⟨S80x500x1, .f32⟩
  | 81 => ⟨S80x500, .f32⟩
  | 82 => ⟨S80x500, .f32⟩
  | 83 => ⟨S_, .f32⟩
  | 84 => ⟨S80x500, .f32⟩
  | 85 => ⟨S80x500, .f32⟩
  | 86 => ⟨S80x500, .f32⟩
  | 87 => ⟨S80x500x1, .f32⟩
  | 88 => ⟨S80x500, .f32⟩
  | 89 => ⟨S80x500x1, .f32⟩
  | 90 => ⟨S80x500x1, .f32⟩
  | 91 => ⟨S80x500, .f32⟩
  | 92 => ⟨S80x1x500, .f32⟩
  | 93 => ⟨S80x500x500, .f32⟩
  | 94 => ⟨S80x500x500, .f32⟩
  | 95 => ⟨S80x500x500, .f32⟩
  | 96 => ⟨S80x500x1, .f32⟩
  | 97 => ⟨S80x500, .f32⟩
  | 98 => ⟨S80x500x1, .f32⟩
  | 99 => ⟨S80x500x1, .f32⟩
  | 100 => ⟨S80x500, .f32⟩
  | 101 => ⟨S80x1x500, .f32⟩
  | 102 => ⟨S80x500x500, .f32⟩
  | 103 => ⟨S80x500x500, .f32⟩
  | 104 => ⟨S80x500x500, .f32⟩
  | 105 => ⟨S80x500x1, .f32⟩
  | 106 => ⟨S80x500, .f32⟩
  | 107 => ⟨S80x500x1, .f32⟩
  | 108 => ⟨S80x500x1, .f32⟩
  | 109 => ⟨S80x500, .f32⟩
  | 110 => ⟨S80x1x500, .f32⟩
  | 111 => ⟨S80x500x500, .f32⟩
  | 112 => ⟨S80x500x500, .f32⟩
  | 113 => ⟨S80x500x500, .f32⟩
  | 114 => ⟨S80x500x1, .f32⟩
  | 115 => ⟨S80x500, .f32⟩
  | 116 => ⟨S80x500x1, .f32⟩
  | 117 => ⟨S80x500x1, .f32⟩
  | 118 => ⟨S80x500, .f32⟩
  | 119 => ⟨S80x1x500, .f32⟩
  | 120 => ⟨S80x500x500, .f32⟩
  | 121 => ⟨S80x500x500, .f32⟩
  | 122 => ⟨S80x500x500, .f32⟩
  | 123 => ⟨S80x500x500, .f32⟩
  | 124 => ⟨S_, .f32⟩
  | 125 => ⟨S80x500x500, .f32⟩
  | 126 => ⟨S80x500x500, .f32⟩
  | 127 => ⟨S_, .f32⟩
  | _ => ⟨S20000x81, .f32⟩

abbrev hbmTy0_2 (i : Nat) : BufTy := match i % 128 with
  | 0 => ⟨S80x500x500, .f32⟩
  | 1 => ⟨S80x500x500, .f32⟩
  | 2 => ⟨S80x500x500, .f32⟩
  | 3 => ⟨S_, .f32⟩
  | 4 => ⟨S80x500x500, .f32⟩
  | 5 => ⟨S80x500x500, .f32⟩
  | 6 => ⟨S_, .f32⟩
  | 7 => ⟨S80x500x500, .f32⟩
  | 8 => ⟨S80x500x500, .f32⟩
  | 9 => ⟨S80x500x500, .f32⟩
  | 10 => ⟨S80x500x1, .f32⟩
  | 11 => ⟨S80x1x500, .f32⟩
  | 12 => ⟨S80x500x500, .f32⟩
  | 13 => ⟨S80x500x500, .f32⟩
  | 14 => ⟨S80x500x500, .f32⟩
  | 15 => ⟨S80x500x500, .f32⟩
  | 16 => ⟨S80x500x500, .f32⟩
  | 17 => ⟨S500, .i32⟩
  | 18 => ⟨S_, .i1⟩
  | 19 => ⟨S80x500, .i1⟩
  | 20 => ⟨S_, .i32⟩
  | 21 => ⟨S_, .i32⟩
  | 22 => ⟨S80x500x500, .f32⟩
  | 23 => ⟨S500, .i32⟩
  | 24 => ⟨S80x500, .i1⟩
  | 25 => ⟨S_, .i32⟩
  | 26 => ⟨S_, .i32⟩
  | 27 => ⟨S80x500, .i1⟩
  | 28 => ⟨S_, .i32⟩
  | 29 => ⟨S_, .i1⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S80x500x1, .f32⟩
  | 41 => ⟨S80x500, .f32⟩
  | 42 => ⟨S_, .f32⟩
  | 43 => ⟨S80x500, .f32⟩
  | 44 => ⟨S80x500, .i1⟩
  | 45 => ⟨S80x500, .i1⟩
  | 46 => ⟨S_, .i32⟩
  | 47 => ⟨S500, .i32⟩
  | 48 => ⟨S500, .i1⟩
  | 49 => ⟨S1x500, .i1⟩
  | 50 => ⟨S80x500, .i1⟩
  | 51 => ⟨S80x500, .i1⟩
  | 52 => ⟨S_, .i1⟩
  | 53 => ⟨S80, .i1⟩
  | 54 => ⟨S_, .i32⟩
  | 55 => ⟨S_, .i1⟩
  | 56 => ⟨S_, .i32⟩
  | 57 => ⟨S_, .i32⟩
  | 58 => ⟨S_, .i32⟩
  | 59 => ⟨S_, .i32⟩
  | 60 => ⟨S_, .i32⟩
  | 61 => ⟨S80x1, .i1⟩
  | 62 => ⟨S80, .i1⟩
  | 63 => ⟨S80x1, .i1⟩
  | 64 => ⟨S80x1, .i1⟩
  | 65 => ⟨S_, .i32⟩
  | 66 => ⟨S_, .i1⟩
  | 67 => ⟨S_, .i32⟩
  | 68 => ⟨S_, .i32⟩
  | 69 => ⟨S_, .i32⟩
  | 70 => ⟨S_, .i32⟩
  | 71 => ⟨S_, .i32⟩
  | 72 => ⟨S80x500, .i1⟩
  | 73 => ⟨S_, .i32⟩
  | 74 => ⟨S_, .i32⟩
  | 75 => ⟨S_, .f32⟩
  | 76 => ⟨S_, .f32⟩
  | 77 => ⟨S80x500, .f32⟩
  | 78 => ⟨S80x500, .f32⟩
  | 79 => ⟨S40000, .f32⟩
  | 80 => ⟨S40000x4, .f32⟩
  | 81 => ⟨S80, .i32⟩
  | 82 => ⟨S_, .i32⟩
  | 83 => ⟨S80, .i32⟩
  | 84 => ⟨S80, .i32⟩
  | 85 => ⟨S80x1, .i32⟩
  | 86 => ⟨S80x500, .i32⟩
  | 87 => ⟨S40000, .i32⟩
  | 88 => ⟨S100, .f32⟩
  | 89 => ⟨S100, .i32⟩
  | 90 => ⟨S_, .i32⟩
  | 91 => ⟨S100, .i32⟩
  | 92 => ⟨S100, .i1⟩
  | 93 => ⟨S_, .i32⟩
  | 94 => ⟨S100, .i32⟩
  | 95 => ⟨S100, .i32⟩
  | 96 => ⟨S100, .i32⟩
  | 97 => ⟨S100x1, .i32⟩
  | 98 => ⟨S100x4, .f32⟩
  | 99 => ⟨S_, .i32⟩
  | 100 => ⟨S100, .i32⟩
  | 101 => ⟨S100, .i1⟩
  | 102 => ⟨S_, .i32⟩
  | 103 => ⟨S100, .i32⟩
  | 104 => ⟨S100, .i32⟩
  | 105 => ⟨S100, .i32⟩
  | 106 => ⟨S100x1, .i32⟩
  | 107 => ⟨S100, .i32⟩
  | _ => ⟨S20000x81, .f32⟩

abbrev hbmTy (i : Nat) : BufTy := match i / 128 with
  | 0 => hbmTy0_0 i
  | 1 => hbmTy0_1 i
  | 2 => hbmTy0_2 i
  | _ => ⟨S20000x81, .f32⟩

abbrev bufTy : (tb : Table) → Fin (tcTables nBuf tb) → BufTy
  | .hbm, ⟨i, _⟩ => hbmTy i
  | _, _ => ⟨S20000x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_7 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_8 : Ref sig .tc := ⟨.hbm, 54, rfl⟩
abbrev main_v42 : Ref sig .tc := ⟨.hbm, 55, rfl⟩
abbrev main_v43 : Ref sig .tc := ⟨.hbm, 56, rfl⟩
abbrev main_cst_9 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_10 : Ref sig .tc := ⟨.hbm, 61, rfl⟩
abbrev main_v47 : Ref sig .tc := ⟨.hbm, 62, rfl⟩
abbrev main_v48 : Ref sig .tc := ⟨.hbm, 63, rfl⟩
abbrev main_cst_11 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_12 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_13 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_14 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_15 : Ref sig .tc := ⟨.hbm, 99, rfl⟩
abbrev main_v80 : Ref sig .tc := ⟨.hbm, 100, rfl⟩
abbrev main_v81 : Ref sig .tc := ⟨.hbm, 101, rfl⟩
abbrev main_cst_16 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_cst_17 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_cst_18 : Ref sig .tc := ⟨.hbm, 116, rfl⟩
abbrev main_cst_19 : Ref sig .tc := ⟨.hbm, 117, rfl⟩
abbrev main_call0_v0 : Ref sig .tc := ⟨.hbm, 118, rfl⟩
abbrev main_call0_v1 : Ref sig .tc := ⟨.hbm, 119, rfl⟩
abbrev main_call0_v2 : Ref sig .tc := ⟨.hbm, 120, rfl⟩
abbrev main_call0_v3 : Ref sig .tc := ⟨.hbm, 121, rfl⟩
abbrev main_call0_v4 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_20 : Ref sig .tc := ⟨.hbm, 126, rfl⟩
abbrev main_cst_21 : Ref sig .tc := ⟨.hbm, 127, rfl⟩
abbrev main_call1_v0 : Ref sig .tc := ⟨.hbm, 128, rfl⟩
abbrev main_call1_v1 : Ref sig .tc := ⟨.hbm, 129, rfl⟩
abbrev main_call1_v2 : Ref sig .tc := ⟨.hbm, 130, rfl⟩
abbrev main_call1_v3 : Ref sig .tc := ⟨.hbm, 131, rfl⟩
abbrev main_call1_v4 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_22 : Ref sig .tc := ⟨.hbm, 136, rfl⟩
abbrev main_cst_23 : Ref sig .tc := ⟨.hbm, 137, rfl⟩
abbrev main_call2_v0 : Ref sig .tc := ⟨.hbm, 138, rfl⟩
abbrev main_call2_v1 : Ref sig .tc := ⟨.hbm, 139, rfl⟩
abbrev main_call2_v2 : Ref sig .tc := ⟨.hbm, 140, rfl⟩
abbrev main_call2_v3 : Ref sig .tc := ⟨.hbm, 141, rfl⟩
abbrev main_call2_v4 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_cst_24 : Ref sig .tc := ⟨.hbm, 146, rfl⟩
abbrev main_cst_25 : Ref sig .tc := ⟨.hbm, 147, rfl⟩
abbrev main_call3_v0 : Ref sig .tc := ⟨.hbm, 148, rfl⟩
abbrev main_call3_v1 : Ref sig .tc := ⟨.hbm, 149, rfl⟩
abbrev main_call3_v2 : Ref sig .tc := ⟨.hbm, 150, rfl⟩
abbrev main_call3_v3 : Ref sig .tc := ⟨.hbm, 151, rfl⟩
abbrev main_call3_v4 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_cst_26 : Ref sig .tc := ⟨.hbm, 163, rfl⟩
abbrev main_v113 : Ref sig .tc := ⟨.hbm, 164, rfl⟩
abbrev main_v114 : Ref sig .tc := ⟨.hbm, 165, rfl⟩
abbrev main_cst_27 : Ref sig .tc := ⟨.hbm, 166, rfl⟩
abbrev main_call4_v0 : Ref sig .tc := ⟨.hbm, 167, rfl⟩
abbrev main_call4_v1 : Ref sig .tc := ⟨.hbm, 168, rfl⟩
abbrev main_v115 : Ref sig .tc := ⟨.hbm, 169, rfl⟩
abbrev main_values : Ref sig .tc := ⟨.hbm, 170, rfl⟩
abbrev main_indices : Ref sig .tc := ⟨.hbm, 171, rfl⟩
abbrev main_cst_28 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_call5_c : Ref sig .tc := ⟨.hbm, 176, rfl⟩
abbrev main_call5_v0 : Ref sig .tc := ⟨.hbm, 177, rfl⟩
abbrev main_call5_v1 : Ref sig .tc := ⟨.hbm, 178, rfl⟩
abbrev main_call5_c_0 : Ref sig .tc := ⟨.hbm, 179, rfl⟩
abbrev main_call5_v2 : Ref sig .tc := ⟨.hbm, 180, rfl⟩
abbrev main_call5_v3 : Ref sig .tc := ⟨.hbm, 181, rfl⟩
abbrev main_call5_v4 : Ref sig .tc := ⟨.hbm, 182, rfl⟩
abbrev main_call5_c_1 : Ref sig .tc := ⟨.hbm, 183, rfl⟩
abbrev main_call5_c_2 : Ref sig .tc := ⟨.hbm, 184, rfl⟩
abbrev main_call5_v5 : Ref sig .tc := ⟨.hbm, 185, rfl⟩
abbrev main_call5_v6 : Ref sig .tc := ⟨.hbm, 186, rfl⟩
abbrev main_call5_v7 : Ref sig .tc := ⟨.hbm, 187, rfl⟩
abbrev main_call5_v8 : Ref sig .tc := ⟨.hbm, 188, rfl⟩
abbrev main_call5_v9 : Ref sig .tc := ⟨.hbm, 189, rfl⟩
abbrev main_call5_v10 : Ref sig .tc := ⟨.hbm, 190, rfl⟩
abbrev main_call5_c_3 : Ref sig .tc := ⟨.hbm, 191, rfl⟩
abbrev main_call5_v11 : Ref sig .tc := ⟨.hbm, 192, rfl⟩
abbrev main_call5_v12 : Ref sig .tc := ⟨.hbm, 193, rfl⟩
abbrev main_call5_v13 : Ref sig .tc := ⟨.hbm, 194, rfl⟩
abbrev main_call5_cst : Ref sig .tc := ⟨.hbm, 195, rfl⟩
abbrev main_call5_v14 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_cst_29 : Ref sig .tc := ⟨.hbm, 203, rfl⟩
abbrev main_v125 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_cst_30 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_v143 : Ref sig .tc := ⟨.hbm, 223, rfl⟩
abbrev main_v144 : Ref sig .tc := ⟨.hbm, 224, rfl⟩
abbrev main_v145 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩
abbrev main_v154 : Ref sig .tc := ⟨.hbm, 234, rfl⟩
abbrev main_v155 : Ref sig .tc := ⟨.hbm, 235, rfl⟩
abbrev main_v156 : Ref sig .tc := ⟨.hbm, 236, rfl⟩
abbrev main_v157 : Ref sig .tc := ⟨.hbm, 237, rfl⟩
abbrev main_v158 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev main_v165 : Ref sig .tc := ⟨.hbm, 245, rfl⟩
abbrev main_v166 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_v170 : Ref sig .tc := ⟨.hbm, 250, rfl⟩
abbrev main_v171 : Ref sig .tc := ⟨.hbm, 251, rfl⟩
abbrev main_cst_31 : Ref sig .tc := ⟨.hbm, 252, rfl⟩
abbrev main_v172 : Ref sig .tc := ⟨.hbm, 253, rfl⟩
abbrev main_v173 : Ref sig .tc := ⟨.hbm, 254, rfl⟩
abbrev main_cst_32 : Ref sig .tc := ⟨.hbm, 255, rfl⟩
abbrev main_v174 : Ref sig .tc := ⟨.hbm, 256, rfl⟩
abbrev main_v175 : Ref sig .tc := ⟨.hbm, 257, rfl⟩
abbrev main_v176 : Ref sig .tc := ⟨.hbm, 258, rfl⟩
abbrev main_cst_33 : Ref sig .tc := ⟨.hbm, 259, rfl⟩
abbrev main_v177 : Ref sig .tc := ⟨.hbm, 260, rfl⟩
abbrev main_v178 : Ref sig .tc := ⟨.hbm, 261, rfl⟩
abbrev main_cst_34 : Ref sig .tc := ⟨.hbm, 262, rfl⟩
abbrev main_v179 : Ref sig .tc := ⟨.hbm, 263, rfl⟩
abbrev main_v180 : Ref sig .tc := ⟨.hbm, 264, rfl⟩
abbrev main_v181 : Ref sig .tc := ⟨.hbm, 265, rfl⟩
abbrev main_v182 : Ref sig .tc := ⟨.hbm, 266, rfl⟩
abbrev main_v183 : Ref sig .tc := ⟨.hbm, 267, rfl⟩
abbrev main_v184 : Ref sig .tc := ⟨.hbm, 268, rfl⟩
abbrev main_v185 : Ref sig .tc := ⟨.hbm, 269, rfl⟩
abbrev main_v186 : Ref sig .tc := ⟨.hbm, 270, rfl⟩
abbrev main_v187 : Ref sig .tc := ⟨.hbm, 271, rfl⟩
abbrev main_v188 : Ref sig .tc := ⟨.hbm, 272, rfl⟩
abbrev main_v189 : Ref sig .tc := ⟨.hbm, 273, rfl⟩
abbrev main_c : Ref sig .tc := ⟨.hbm, 274, rfl⟩
abbrev main_v190 : Ref sig .tc := ⟨.hbm, 275, rfl⟩
abbrev main_c_35 : Ref sig .tc := ⟨.hbm, 276, rfl⟩
abbrev main_c_36 : Ref sig .tc := ⟨.hbm, 277, rfl⟩
abbrev main_v191_0 : Ref sig .tc := ⟨.hbm, 278, rfl⟩
abbrev main_v191_1 : Ref sig .tc := ⟨.hbm, 279, rfl⟩
abbrev main_v191_2 : Ref sig .tc := ⟨.hbm, 280, rfl⟩
abbrev main_v191_3 : Ref sig .tc := ⟨.hbm, 281, rfl⟩
abbrev main_v191_4 : Ref sig .tc := ⟨.hbm, 282, rfl⟩
abbrev main_v191_5 : Ref sig .tc := ⟨.hbm, 283, rfl⟩
abbrev main_while0c_c_50 : Ref sig .tc := ⟨.hbm, 284, rfl⟩
abbrev main_while0c_v215 : Ref sig .tc := ⟨.hbm, 285, rfl⟩
abbrev main_while0b_c_50 : Ref sig .tc := ⟨.hbm, 286, rfl⟩
abbrev main_while0b_v215 : Ref sig .tc := ⟨.hbm, 287, rfl⟩
abbrev main_while0b_c_51 : Ref sig .tc := ⟨.hbm, 288, rfl⟩
abbrev main_while0b_v216 : Ref sig .tc := ⟨.hbm, 289, rfl⟩
abbrev main_while0b_v217 : Ref sig .tc := ⟨.hbm, 290, rfl⟩
abbrev main_while0b_c_52 : Ref sig .tc := ⟨.hbm, 291, rfl⟩
abbrev main_while0b_v218 : Ref sig .tc := ⟨.hbm, 292, rfl⟩
abbrev main_while0b_v219 : Ref sig .tc := ⟨.hbm, 293, rfl⟩
abbrev main_while0b_c_53 : Ref sig .tc := ⟨.hbm, 294, rfl⟩
abbrev main_while0b_c_54 : Ref sig .tc := ⟨.hbm, 295, rfl⟩
abbrev main_while0b_v220 : Ref sig .tc := ⟨.hbm, 296, rfl⟩
abbrev main_while0b_v221 : Ref sig .tc := ⟨.hbm, 297, rfl⟩
abbrev main_while0b_cst_55 : Ref sig .tc := ⟨.hbm, 298, rfl⟩
abbrev main_while0b_v222 : Ref sig .tc := ⟨.hbm, 299, rfl⟩
abbrev main_while0b_v223 : Ref sig .tc := ⟨.hbm, 300, rfl⟩
abbrev main_while0b_v224 : Ref sig .tc := ⟨.hbm, 301, rfl⟩
abbrev main_while0b_v225 : Ref sig .tc := ⟨.hbm, 302, rfl⟩
abbrev main_while0b_v226 : Ref sig .tc := ⟨.hbm, 303, rfl⟩
abbrev main_while0b_v227 : Ref sig .tc := ⟨.hbm, 304, rfl⟩
abbrev main_while0b_v228 : Ref sig .tc := ⟨.hbm, 305, rfl⟩
abbrev main_while0b_v229 : Ref sig .tc := ⟨.hbm, 306, rfl⟩
abbrev main_while0b_v230 : Ref sig .tc := ⟨.hbm, 307, rfl⟩
abbrev main_while0b_c_56 : Ref sig .tc := ⟨.hbm, 308, rfl⟩
abbrev main_while0b_v231 : Ref sig .tc := ⟨.hbm, 309, rfl⟩
abbrev main_while0b_c_57 : Ref sig .tc := ⟨.hbm, 310, rfl⟩
abbrev main_while0b_v232 : Ref sig .tc := ⟨.hbm, 311, rfl⟩
abbrev main_while0b_v233 : Ref sig .tc := ⟨.hbm, 312, rfl⟩
abbrev main_while0b_c_58 : Ref sig .tc := ⟨.hbm, 313, rfl⟩
abbrev main_while0b_v234 : Ref sig .tc := ⟨.hbm, 314, rfl⟩
abbrev main_while0b_v235 : Ref sig .tc := ⟨.hbm, 315, rfl⟩
abbrev main_while0b_c_59 : Ref sig .tc := ⟨.hbm, 316, rfl⟩
abbrev main_while0b_v236 : Ref sig .tc := ⟨.hbm, 317, rfl⟩
abbrev main_while0b_v237 : Ref sig .tc := ⟨.hbm, 318, rfl⟩
abbrev main_while0b_v238 : Ref sig .tc := ⟨.hbm, 319, rfl⟩
abbrev main_while0b_v239 : Ref sig .tc := ⟨.hbm, 320, rfl⟩
abbrev main_while0b_c_60 : Ref sig .tc := ⟨.hbm, 321, rfl⟩
abbrev main_while0b_v240 : Ref sig .tc := ⟨.hbm, 322, rfl⟩
abbrev main_while0b_v241 : Ref sig .tc := ⟨.hbm, 323, rfl⟩
abbrev main_while0b_c_61 : Ref sig .tc := ⟨.hbm, 324, rfl⟩
abbrev main_while0b_v242 : Ref sig .tc := ⟨.hbm, 325, rfl⟩
abbrev main_while0b_v243 : Ref sig .tc := ⟨.hbm, 326, rfl⟩
abbrev main_while0b_c_62 : Ref sig .tc := ⟨.hbm, 327, rfl⟩
abbrev main_while0b_v244 : Ref sig .tc := ⟨.hbm, 328, rfl⟩
abbrev main_while0b_c_63 : Ref sig .tc := ⟨.hbm, 329, rfl⟩
abbrev main_while0b_v245 : Ref sig .tc := ⟨.hbm, 330, rfl⟩
abbrev main_cst_37 : Ref sig .tc := ⟨.hbm, 331, rfl⟩
abbrev main_call6_v0 : Ref sig .tc := ⟨.hbm, 332, rfl⟩
abbrev main_call6_v1 : Ref sig .tc := ⟨.hbm, 333, rfl⟩
abbrev main_v192 : Ref sig .tc := ⟨.hbm, 334, rfl⟩
abbrev main_v193 : Ref sig .tc := ⟨.hbm, 335, rfl⟩
abbrev main_v194 : Ref sig .tc := ⟨.hbm, 336, rfl⟩
abbrev main_v195 : Ref sig .tc := ⟨.hbm, 337, rfl⟩
abbrev main_c_38 : Ref sig .tc := ⟨.hbm, 338, rfl⟩
abbrev main_v196 : Ref sig .tc := ⟨.hbm, 339, rfl⟩
abbrev main_v197 : Ref sig .tc := ⟨.hbm, 340, rfl⟩
abbrev main_v198 : Ref sig .tc := ⟨.hbm, 341, rfl⟩
abbrev main_v199 : Ref sig .tc := ⟨.hbm, 342, rfl⟩
abbrev main_v200 : Ref sig .tc := ⟨.hbm, 343, rfl⟩
abbrev main_values_39 : Ref sig .tc := ⟨.hbm, 344, rfl⟩
abbrev main_indices_40 : Ref sig .tc := ⟨.hbm, 345, rfl⟩
abbrev main_c_41 : Ref sig .tc := ⟨.hbm, 346, rfl⟩
abbrev main_v201 : Ref sig .tc := ⟨.hbm, 347, rfl⟩
abbrev main_v202 : Ref sig .tc := ⟨.hbm, 348, rfl⟩
abbrev main_c_42 : Ref sig .tc := ⟨.hbm, 349, rfl⟩
abbrev main_v203 : Ref sig .tc := ⟨.hbm, 350, rfl⟩
abbrev main_v204 : Ref sig .tc := ⟨.hbm, 351, rfl⟩
abbrev main_v205 : Ref sig .tc := ⟨.hbm, 352, rfl⟩
abbrev main_v206 : Ref sig .tc := ⟨.hbm, 353, rfl⟩
abbrev main_v207 : Ref sig .tc := ⟨.hbm, 354, rfl⟩
abbrev main_c_43 : Ref sig .tc := ⟨.hbm, 355, rfl⟩
abbrev main_v208 : Ref sig .tc := ⟨.hbm, 356, rfl⟩
abbrev main_v209 : Ref sig .tc := ⟨.hbm, 357, rfl⟩
abbrev main_c_44 : Ref sig .tc := ⟨.hbm, 358, rfl⟩
abbrev main_v210 : Ref sig .tc := ⟨.hbm, 359, rfl⟩
abbrev main_v211 : Ref sig .tc := ⟨.hbm, 360, rfl⟩
abbrev main_v212 : Ref sig .tc := ⟨.hbm, 361, rfl⟩
abbrev main_v213 : Ref sig .tc := ⟨.hbm, 362, rfl⟩
abbrev main_v214 : Ref sig .tc := ⟨.hbm, 363, rfl⟩

abbrev nD : Nat := 1
abbrev τ : Topo := Topo.v7x

variable {F : FTy → Type} [FloatOps F]

abbrev main_while0_count : Scf.Loop 32 := ⟨0#32, 500#32, 1#32⟩
-- ==== Proof.KernelRun.lean ====
/-
  The kernel program's run with its results: the launch that shows the argument arrays unchanged, read once more at the
  three result arrays, which end at what the last boundary of the program holds.
-/
module

public import proofs.«01_k».proof.Proof.Gen.KernelIdeal.Frame

@[expose] public section

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with the three results at the last boundary's contents and the arguments as launched. -/
theorem run : θ_run defs (onTc (τ := τ) (main (F := F))) ⟨m, fun _ => 0, ρ⟩ (fun r => ∀ c : Dev nD,
      r.2.mem ((c.tc : Thread nD τ).loc main_values_4) = W11 m ρ c (Proc.devRef .tc main_values_4)
      ∧ r.2.mem ((c.tc : Thread nD τ).loc main_v49) = W11 m ρ c (Proc.devRef .tc main_v49)
      ∧ r.2.mem ((c.tc : Thread nD τ).loc main_v56) = W11 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h _ c =>
      ⟨h c _ (mem_uc main_values_4 (by decide)), h c _ (mem_uc main_v49 (by decide)), h c _ (mem_uc main_v56 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c)⟩)

end Cert.KernelIdeal.Results

end
-- ==== Proof.Scalars.lean ====
/-
  The dense stage's scalar functions over the extended reals: one coordinate of a decoded and clipped box from one shift,
  one scale and two coordinates of a proposal, and one class probability from a row of logits.
-/
module

public import Idealize.ShloMosaic.PureOps.Ideal

@[expose] public section

noncomputable section

namespace Cert.Scalars

open Idealize.ShloMosaic

/-- The constant one half. -/
def half : EReal := Ideal.ofBits FTy.f32 0x3F000000#32
/-- The constant ten. -/
def ten : EReal := Ideal.ofBits FTy.f32 0x41200000#32
/-- The constant five. -/
def five : EReal := Ideal.ofBits FTy.f32 0x40A00000#32
/-- The bound of the logarithm of the scale. -/
def cap : EReal := Ideal.ofBits FTy.f32 0x40845349#32
/-- The last column of the image. -/
def right : EReal := Ideal.ofBits FTy.f32 0x44A68000#32
/-- The last row of the image. -/
def bottom : EReal := Ideal.ofBits FTy.f32 0x4447C000#32
/-- Minus infinity. -/
def bot : EReal := Ideal.ofBits FTy.f32 0xFF800000#32

/-- A proposal's size. -/
def size (lo hi : EReal) : EReal := hi - lo + 1
/-- The decoded centre. -/
def centre (d lo hi : EReal) : EReal := Ideal.div d ten * size lo hi + (lo + half * size lo hi)
/-- The decoded size. -/
def extent (s lo hi : EReal) : EReal := Ideal.exp (min (Ideal.div s five) cap) * size lo hi
/-- The decoded lower end, clipped. -/
def low (b d s lo hi : EReal) : EReal := min b (max 0 (centre d lo hi - half * extent s lo hi))
/-- The decoded upper end, clipped. -/
def high (b d s lo hi : EReal) : EReal := min b (max 0 (centre d lo hi + half * extent s lo hi - 1))

/-- The largest of a row. -/
def top (x : Fin 81 → EReal) : EReal := Finset.fold max bot x Finset.univ
/-- One class probability. -/
def prob (x : Fin 81 → EReal) (c : Fin 81) : EReal := Ideal.div (Ideal.exp (x c - top x)) (∑ k, Ideal.exp (x k - top x))

theorem bot_le_top (x : Fin 81 → EReal) : max bot (top x) = top x :=
  max_eq_right ((Finset.le_fold_max bot).mpr (.inl le_rfl))

end Cert.Scalars

end
-- ==== Proof.Greedy.lean ====
/-
  The suppression without arrays. Two tests for «this box overlaps that one by more than half» are one test on the boxes
  that the programs meet, and the greedy choice along a row of candidates is a recursion on truth values.
-/
module

public import proofs.«01_k».proof.Proof.Scalars

@[expose] public section

noncomputable section

namespace Cert.Greedy

open Idealize.ShloMosaic

/-! ## The greedy choice -/

/-- Which candidates are kept once the first `n` have been decided: candidate `n` is kept if it is valid and no kept one hits it. -/
def kept (valid : Fin 500 → Prop) (hits : Fin 500 → Fin 500 → Prop) : ℕ → Fin 500 → Prop
  | 0, _ => False
  | n + 1, i => if i.val = n then valid i ∧ ¬ ∃ j, hits j i ∧ kept valid hits n j else kept valid hits n i

/-- A candidate not yet decided is not kept. -/
theorem not_kept (valid : Fin 500 → Prop) (hits : Fin 500 → Fin 500 → Prop) (n : ℕ) (i : Fin 500) (h : n ≤ i.val) :
    ¬ kept valid hits n i := by
  induction n with
  | zero => exact id
  | succ n ih =>
    rw [kept, if_neg (by omega)]
    exact ih (by omega)

/-! ## Boxes -/

/-- A box by its corners. -/
structure Box where
  x1 : EReal
  y1 : EReal
  x2 : EReal
  y2 : EReal

/-- The length two intervals share, both ends counted, none where it is negative. -/
def common (a1 a2 b1 b2 : EReal) : EReal := max (min a2 b2 - max a1 b1 + 1) 0
/-- The area two boxes share. -/
def Box.inter (p q : Box) : EReal := common p.x1 p.x2 q.x1 q.x2 * common p.y1 p.y2 q.y1 q.y2
/-- A box's area. -/
def Box.area (p : Box) : EReal := (p.x2 - p.x1 + 1) * (p.y2 - p.y1 + 1)
/-- The test by multiplication: the shared area exceeds half of the area of the union. -/
def Box.over (p q : Box) : Prop := Scalars.half * (q.area + p.area - p.inter q) < p.inter q
/-- The test by division: the shared area over the area of the union exceeds a half. -/
def Box.ratio (q p : Box) : EReal := Ideal.div (q.inter p) (q.area + p.area - q.inter p)

theorem common_comm (a1 a2 b1 b2 : EReal) : common a1 a2 b1 b2 = common b1 b2 a1 a2 := by
  rw [common, common, min_comm, max_comm a1]
theorem inter_comm (p q : Box) : p.inter q = q.inter p := by
  rw [Box.inter, Box.inter, common_comm, common_comm p.y1]

/-- The boxes that the programs meet: finite ones with no negative width or height, and the fill. -/
def Box.Good (p : Box) : Prop :=
  (∃ x1 y1 x2 y2 : ℝ, p = ⟨x1, y1, x2, y2⟩ ∧ x1 ≤ x2 + 1 ∧ y1 ≤ y2 + 1) ∨ p = ⟨⊥, ⊥, ⊥, ⊥⟩

theorem half_eq : Scalars.half = ((1 / 2 : ℝ) : EReal) := by
  simp [Scalars.half, Ideal.ofBits, Ideal.ieee]
  norm_num [zpow_neg]
  rw [← EReal.coe_mul, EReal.coe_eq_coe_iff]
  norm_num

theorem fill_eq : (Ideal.ofBits FTy.f32 0x7FC00000#32 : EReal) = ⊥ := by
  simp [Ideal.ofBits, Ideal.ieee]

theorem coe_max' (a b : ℝ) : ((max a b : ℝ) : EReal) = max (a : EReal) b := EReal.coe_strictMono.monotone.map_max
theorem coe_min' (a b : ℝ) : ((min a b : ℝ) : EReal) = min (a : EReal) b := EReal.coe_strictMono.monotone.map_min

theorem common_coe (a1 a2 b1 b2 : ℝ) : common a1 a2 b1 b2 = ((max (min a2 b2 - max a1 b1 + 1) 0 : ℝ) : EReal) := by
  rw [coe_max', EReal.coe_add, EReal.coe_sub, coe_min', coe_max', common]
  rfl

/-- Two nonnegative lengths bound the length they share. -/
theorem common_le (a1 a2 b1 b2 : ℝ) (ha : a1 ≤ a2 + 1) : max (min a2 b2 - max a1 b1 + 1) 0 ≤ a2 - a1 + 1 := by
  refine max_le ?_ (by linarith)
  have := min_le_left a2 b2
  have := le_max_left a1 b1
  linarith

/-- The two tests agree on real areas, the shared one at most each of the others. -/
theorem real_test (I A B : ℝ) (hI : 0 ≤ I) (hA : I ≤ A) (hB : I ≤ B) :
    Scalars.half < Ideal.div (I : EReal) ((B : EReal) + A - I) ↔ Scalars.half * ((B : EReal) + A - I) < (I : EReal) := by
  rw [half_eq, ← EReal.coe_add, ← EReal.coe_sub, ← EReal.coe_mul, EReal.coe_lt_coe_iff, Ideal.div]
  by_cases h : B + A - I = 0
  · have h0 : I = 0 := by linarith
    rw [if_pos (by rw [h]; rfl), h, h0]
    simp
  · rw [if_neg (by rw [← EReal.coe_zero, EReal.coe_eq_coe_iff]; exact h), ← EReal.coe_inv, ← EReal.coe_mul, EReal.coe_lt_coe_iff]
    have hp : 0 < B + A - I := lt_of_le_of_ne (by linarith) (Ne.symm h)
    rw [← div_eq_mul_inv, lt_div_iff₀ hp]

theorem common_bot_left (b1 b2 : EReal) : common ⊥ ⊥ b1 b2 = 0 := by
  rw [common, min_eq_left bot_le, EReal.bot_sub, EReal.bot_add]
  exact max_eq_right bot_le
theorem area_bot : Box.area ⟨⊥, ⊥, ⊥, ⊥⟩ = ⊤ := by
  simp [Box.area, EReal.bot_sub]
theorem inter_bot (q : Box) : Box.inter ⟨⊥, ⊥, ⊥, ⊥⟩ q = 0 := by
  rw [Box.inter, common_bot_left, zero_mul]

theorem area_ne_bot {p : Box} (h : p.Good) : p.area ≠ ⊥ := by
  rcases h with ⟨x1, y1, x2, y2, rfl, -, -⟩ | rfl
  · have : Box.area ⟨x1, y1, x2, y2⟩ = (((x2 - x1 + 1) * (y2 - y1 + 1) : ℝ) : EReal) := by
      simp [Box.area]
    rw [this]
    exact EReal.coe_ne_bot _
  · rw [area_bot]
    exact top_ne_bot

/-- With nothing shared and an infinite union neither test holds. -/
theorem top_test : Scalars.half < Ideal.div 0 (⊤ - 0) ↔ Scalars.half * ((⊤ : EReal) - 0) < 0 := by
  have hp : (0 : EReal) < ((1 / 2 : ℝ) : EReal) := by
    rw [← EReal.coe_zero, EReal.coe_lt_coe_iff]
    norm_num
  have h1 : ((⊤ : EReal) - 0) = ⊤ := by simp
  rw [h1, half_eq, EReal.mul_top_of_pos hp, Ideal.div, if_neg EReal.top_ne_zero, zero_mul]
  constructor
  · intro h
    exact absurd h (not_lt.mpr hp.le)
  · intro h
    exact absurd h (not_lt.mpr le_top)

/-- THE TWO TESTS AGREE on the boxes that the programs meet. -/
theorem over_iff (p q : Box) (hp : p.Good) (hq : q.Good) : Scalars.half < Box.ratio q p ↔ p.over q := by
  rw [Box.ratio, Box.over, inter_comm p q]
  rcases hp with ⟨a1, b1, a2, b2, rfl, ha, hb⟩ | rfl
  · rcases hq with ⟨c1, d1, c2, d2, rfl, hc, hd⟩ | rfl
    · have hI : Box.inter ⟨c1, d1, c2, d2⟩ ⟨a1, b1, a2, b2⟩
          = ((max (min c2 a2 - max c1 a1 + 1) 0 * max (min d2 b2 - max d1 b1 + 1) 0 : ℝ) : EReal) := by
        rw [Box.inter, common_coe, common_coe, EReal.coe_mul]
      have hA : Box.area ⟨a1, b1, a2, b2⟩ = (((a2 - a1 + 1) * (b2 - b1 + 1) : ℝ) : EReal) := by simp [Box.area]
      have hB : Box.area ⟨c1, d1, c2, d2⟩ = (((c2 - c1 + 1) * (d2 - d1 + 1) : ℝ) : EReal) := by simp [Box.area]
      rw [hI, hA, hB]
      have e1 := common_le c1 c2 a1 a2 hc
      have e2 := common_le d1 d2 b1 b2 hd
      have e3 := common_le a1 a2 c1 c2 ha
      have e4 := common_le b1 b2 d1 d2 hb
      rw [min_comm, max_comm a1] at e3
      rw [min_comm, max_comm b1] at e4
      exact real_test _ _ _ (mul_nonneg (le_max_right _ _) (le_max_right _ _))
        (mul_le_mul e3 e4 (le_max_right _ _) (by linarith)) (mul_le_mul e1 e2 (le_max_right _ _) (by linarith))
    · rw [inter_bot, area_bot, EReal.top_add_of_ne_bot (area_ne_bot (.inl ⟨a1, b1, a2, b2, rfl, ha, hb⟩))]
      exact top_test
  · rw [inter_comm q, inter_bot, area_bot, EReal.add_top_of_ne_bot (area_ne_bot hq)]
    exact top_test

/-! ## Truth values as numbers -/

open Classical in
/-- One where a statement holds, zero elsewhere. -/
def ind (p : Prop) : EReal := if p then 1 else 0

open Classical in
/-- The largest of a row of zeros and ones. -/
theorem fold_ind (f : Fin 500 → EReal) (p : Fin 500 → Prop) (hf : ∀ j, f j = ind (p j)) :
    Finset.fold max Scalars.bot f Finset.univ = ind (∃ j, p j) := by
  have hb : Scalars.bot ≤ 0 := by
    have : Scalars.bot = ⊥ := by simp [Scalars.bot, Ideal.ofBits, Ideal.ieee]
    rw [this]
    exact bot_le
  apply le_antisymm
  · rw [Finset.fold_max_le]
    refine ⟨hb.trans ?_, fun j _ => ?_⟩
    · unfold ind
      split
      · exact zero_le_one
      · exact le_rfl
    · rw [hf]
      unfold ind
      split
      · rw [if_pos ⟨j, ‹_›⟩]
      · split
        · exact zero_le_one
        · exact le_rfl
  · rw [Finset.le_fold_max]
    right
    unfold ind
    split
    · obtain ⟨j, hj⟩ := ‹∃ j, p j›
      exact ⟨j, Finset.mem_univ _, by rw [hf, ind, if_pos hj]⟩
    · exact ⟨0, Finset.mem_univ _, by
        rw [hf]
        unfold ind
        split
        · exact zero_le_one
        · exact le_rfl⟩

open Classical in
/-- A decision as a product. -/
theorem ind_mul (a b : Prop) : ind a * (1 - ind b) = ind (a ∧ ¬ b) := by
  have h1 : (1 : EReal) - 1 = 0 := by
    rw [← EReal.coe_one, ← EReal.coe_sub, sub_self, EReal.coe_zero]
  unfold ind
  by_cases ha : a <;> by_cases hb : b <;> simp [ha, hb, h1]

open Classical in
theorem half_lt_ind (a : Prop) : Scalars.half < ind a ↔ a := by
  rw [half_eq]
  unfold ind
  by_cases ha : a
  · rw [if_pos ha, ← EReal.coe_one, EReal.coe_lt_coe_iff]
    exact ⟨fun _ => ha, fun _ => by norm_num⟩
  · rw [if_neg ha, ← EReal.coe_zero, EReal.coe_lt_coe_iff]
    exact ⟨fun h => absurd h (by norm_num), fun h => absurd h ha⟩

/-! ## The boxes of the dense stage -/

theorem exp_nonneg (x : EReal) : 0 ≤ Ideal.exp x := by
  induction x with
  | bot => exact le_rfl
  | top => exact le_top
  | coe x => exact EReal.coe_nonneg.mpr (Real.exp_nonneg x)

theorem clip_real (b : ℝ) (hb : 0 ≤ b) (x : EReal) : ∃ r : ℝ, min (b : EReal) (max 0 x) = r := by
  induction x with
  | bot => exact ⟨min b 0, by rw [coe_min']; simp⟩
  | top => exact ⟨b, by simp⟩
  | coe x => exact ⟨min b (max 0 x), by rw [coe_min', coe_max']; rfl⟩

/-- Clipping keeps the lower end at most one above the upper end. -/
theorem clip_le (b : ℝ) (hb : 0 ≤ b) (c a : EReal) (ha : 0 ≤ a) :
    min (b : EReal) (max 0 (c - a)) ≤ min (b : EReal) (max 0 (c + a - 1)) + 1 := by
  have key : c - a ≤ (c + a - 1) + 1 := by
    have h1 : (c + a - 1) + 1 = c + a := by
      induction c <;> induction a <;> first | rfl | skip
      all_goals norm_cast
      all_goals try simp
    rw [h1, sub_eq_add_neg]
    exact add_le_add le_rfl ((EReal.neg_le_neg_iff.mpr ha).trans (by simpa using ha))
  generalize c - a = u at key ⊢
  generalize c + a - 1 = v at key ⊢
  have m1 : min (b : EReal) (max 0 v) + 1 = min ((b : EReal) + 1) (max 1 (v + 1)) := by
    have mono : Monotone (fun x : EReal => x + 1) := fun x y h => add_le_add h le_rfl
    have h : min (b : EReal) (max 0 v) + 1 = min ((b : EReal) + 1) (max 0 v + 1) := mono.map_min
    have h' : max (0 : EReal) v + 1 = max (0 + 1) (v + 1) := mono.map_max
    rw [h, h', zero_add]
  rw [m1]
  refine min_le_min ?_ (max_le_max zero_le_one key)
  exact le_add_of_nonneg_right zero_le_one

theorem right_eq : Scalars.right = ((1332 : ℝ) : EReal) := by
  simp [Scalars.right, Ideal.ofBits, Ideal.ieee]
  norm_num [zpow_neg]
  rw [← EReal.coe_mul, EReal.coe_eq_coe_iff]
  norm_num
theorem bottom_eq : Scalars.bottom = ((799 : ℝ) : EReal) := by
  simp [Scalars.bottom, Ideal.ofBits, Ideal.ieee]
  norm_num [zpow_neg]
  rw [← EReal.coe_mul, EReal.coe_eq_coe_iff]
  norm_num

theorem low_le_high (b : ℝ) (hb : 0 ≤ b) (d s lo hi : EReal) (h : 0 ≤ Scalars.size lo hi) :
    Scalars.low b d s lo hi ≤ Scalars.high b d s lo hi + 1 := by
  refine clip_le b hb _ _ (mul_nonneg ?_ (mul_nonneg (exp_nonneg _) h))
  rw [half_eq, ← EReal.coe_zero, EReal.coe_le_coe_iff]
  norm_num

/-- The decoded and clipped box of a proposal with no negative width or height is good. -/
theorem decoded_good (dx dy dw dh px1 py1 px2 py2 : EReal) (hw : 0 ≤ Scalars.size px1 px2) (hh : 0 ≤ Scalars.size py1 py2) :
    Box.Good ⟨Scalars.low Scalars.right dx dw px1 px2, Scalars.low Scalars.bottom dy dh py1 py2,
      Scalars.high Scalars.right dx dw px1 px2, Scalars.high Scalars.bottom dy dh py1 py2⟩ := by
  rw [right_eq, bottom_eq]
  have hx := low_le_high 1332 (by norm_num) dx dw px1 px2 hw
  have hy := low_le_high 799 (by norm_num) dy dh py1 py2 hh
  obtain ⟨a, ha⟩ : ∃ r : ℝ, Scalars.low (1332 : ℝ) dx dw px1 px2 = r := clip_real 1332 (by norm_num) _
  obtain ⟨b, hb⟩ : ∃ r : ℝ, Scalars.low (799 : ℝ) dy dh py1 py2 = r := clip_real 799 (by norm_num) _
  obtain ⟨c, hc⟩ : ∃ r : ℝ, Scalars.high (1332 : ℝ) dx dw px1 px2 = r := clip_real 1332 (by norm_num) _
  obtain ⟨d, hd⟩ : ∃ r : ℝ, Scalars.high (799 : ℝ) dy dh py1 py2 = r := clip_real 799 (by norm_num) _
  rw [ha, hc, ← EReal.coe_one, ← EReal.coe_add, EReal.coe_le_coe_iff] at hx
  rw [hb, hd, ← EReal.coe_one, ← EReal.coe_add, EReal.coe_le_coe_iff] at hy
  rw [ha, hb, hc, hd]
  exact .inl ⟨a, b, c, d, rfl, hx, hy⟩

end Cert.Greedy

end
-- ==== Proof.Terms.lean ====
/-
  The parts of the computation that both programs spell in the same way, each as one function of arrays: the scores kept
  for the choice of candidates, the candidates' scores and positions, their boxes, and the three results from the mask of
  the candidates that survive the suppression.
-/
module

public import proofs.«01_k».proof.Proof.Gen.ReferenceIdeal
public import Idealize.ShloMosaic.PureOps.Ideal

@[expose] public section

set_option maxRecDepth 16384

noncomputable section

namespace Cert.ReferenceIdeal.Terms

open Cert.ReferenceIdeal Cert.ReferenceIdeal.Gen
open Idealize.ShloMosaic Idealize.ShloMosaic.TcCoe

/-- The class scores without the background class, one row a class. -/
def scores (P : FVec Ideal S20000x81 .f32) : FVec Ideal S80x20000 .f32 :=
  extractStridedSlice S80x20000 ![1, 0] (transpose S81x20000 [1, 0] P transposes_S20000x81_S81x20000_1_0) slices_S81x20000_S80x20000_1_0

/-- The scores above the threshold, every other one below every number. -/
def masked (S : FVec Ideal S80x20000 .f32) : FVec Ideal S80x20000 .f32 :=
  select (cmpf .ogt S (broadcastInDim S80x20000 ![] bcast_S_S80x20000 (constant S_ .f32 0x3D4CCCCD#32))) S
    (broadcastInDim S80x20000 ![] bcast_S_S80x20000 (constant S_ .f32 0xFF800000#32))

/-- The candidates' scores. -/
def vals (M : FVec Ideal S80x20000 .f32) : FVec Ideal S80x500 .f32 :=
  (Host.topK S80x500 1 (FloatOps.cmpfTotal .gt) M sliceFits_S80x20000_S80x500).1

/-- The candidates' positions. -/
def inds (M : FVec Ideal S80x20000 .f32) : IVec S80x500 32 :=
  (Host.topK S80x500 1 (FloatOps.cmpfTotal .gt) M sliceFits_S80x20000_S80x500).2

/-- Which candidates have a score above the threshold. -/
def valid (v : FVec Ideal S80x500 .f32) : IVec S80x500 1 :=
  cmpf .ogt v (broadcastInDim S80x500 ![] bcast_S_S80x500 (constant S_ .f32 0x3D4CCCCD#32))

/-- The four coordinates side by side. -/
def stack (a b c d : FVec Ideal S20000x81 .f32) : FVec Ideal S20000x81x4 .f32 :=
  concatenate S20000x81x4 2 [⟨S20000x81x1, broadcastInDim S20000x81x1 ![0, 1] bcast_S20000x81_S20000x81x1_0_1 a⟩,
    ⟨S20000x81x1, broadcastInDim S20000x81x1 ![0, 1] bcast_S20000x81_S20000x81x1_0_1 b⟩,
    ⟨S20000x81x1, broadcastInDim S20000x81x1 ![0, 1] bcast_S20000x81_S20000x81x1_0_1 c⟩,
    ⟨S20000x81x1, broadcastInDim S20000x81x1 ![0, 1] bcast_S20000x81_S20000x81x1_0_1 d⟩]
    concatenates_S20000x81x1_S20000x81x1_S20000x81x1_S20000x81x1_S20000x81x4_d2

/-- The boxes of the classes but the background, one row a class. -/
def boxes (B : FVec Ideal S20000x81x4 .f32) : FVec Ideal S80x20000x4 .f32 :=
  extractStridedSlice S80x20000x4 ![1, 0, 0] (transpose S81x20000x4 [1, 0, 2] B transposes_S20000x81x4_S81x20000x4_1_0_2)
    slices_S81x20000x4_S80x20000x4_1_0_0

/-- A candidate's position, counted from the end where it is negative. -/
def wrapped (I : IVec S80x500 32) : IVec S80x500x1 32 :=
  let J : IVec S80x500x1 32 := broadcastInDim S80x500x1 ![0, 1] bcast_S80x500_S80x500x1_0_1 I
  select (cmpi .slt J (broadcastInDim S80x500x1 ![] bcast_S_S80x500x1 (constantI S_ 32 0#32)))
    (addi J (broadcastInDim S80x500x1 ![] bcast_S_S80x500x1 (constantI S_ 32 20000#32))) J

/-- Which positions lie inside the array. -/
def inside (J : IVec S80x500x1 32) : IVec S80x500 1 :=
  Host.reduce IntOp.andi
    (andi (cmpi .sge J (broadcastInDim S80x500x1 ![] bcast_S_S80x500x1 (constantI S_ 32 0#32)))
      (cmpi .sle J (broadcastInDim S80x500x1 ![0, 1, 2] bcast_S1x1x1_S80x500x1_0_1_2
        (broadcastInDim S1x1x1 ![2] bcast_S1_S1x1x1_2 (constantI S1 32 19999#32)))))
    (constantI S_ 1 1#1) reducesTo_S80x500x1_S80x500_d2 h_S_

/-- The candidates' boxes: the box at each position, a fill value where the position is outside. -/
def cand (X : FVec Ideal S80x20000x4 .f32) (J : IVec S80x500x1 32) : FVec Ideal S80x500x4 .f32 :=
  select (broadcastInDim S80x500x4 ![0, 1] bcast_S80x500_S80x500x4_0_1 (inside J))
    (Host.gather gather_S80x20000x4_S80x500x1_S80x500x4_2_1_0_0_1_2_114 X J)
    (broadcastInDim S80x500x4 ![] bcast_S_S80x500x4 (constant S_ .f32 0x7FC00000#32))

/-- One coordinate of the candidates' boxes. -/
def coord (X : FVec Ideal S80x500x4 .f32) (k : ℕ) (h : S80x500x4.Slices ![0, 0, k] S80x500x1) : FVec Ideal S80x500 .f32 :=
  shapeCast S80x500 (extractStridedSlice S80x500x1 ![0, 0, k] X h) shapeCasts_S80x500x1_S80x500

/-- A row of candidates, the same for every second candidate. -/
def left (x : FVec Ideal S80x500 .f32) : FVec Ideal S80x500x500 .f32 :=
  broadcastInDim S80x500x500 ![0, 1, 2] bcast_S80x500x1_S80x500x500_0_1_2 (broadcastInDim S80x500x1 ![0, 1] bcast_S80x500_S80x500x1_0_1 x)

/-- A row of candidates, the same for every first candidate. -/
def right (x : FVec Ideal S80x500 .f32) : FVec Ideal S80x500x500 .f32 :=
  broadcastInDim S80x500x500 ![0, 1, 2] bcast_S80x1x500_S80x500x500_0_1_2 (broadcastInDim S80x1x500 ![0, 2] bcast_S80x500_S80x1x500_0_2 x)

/-- The length from one coordinate to another, both ends counted. -/
def extent (a b : FVec Ideal S80x500 .f32) : FVec Ideal S80x500 .f32 :=
  addf (subf b a) (broadcastInDim S80x500 ![] bcast_S_S80x500 (constant S_ .f32 0x3F800000#32))

/-- The same for two candidates, and none where it is negative. -/
def extent0 (a b : FVec Ideal S80x500x500 .f32) : FVec Ideal S80x500x500 .f32 :=
  maximumf (addf (subf b a) (broadcastInDim S80x500x500 ![] bcast_S_S80x500x500 (constant S_ .f32 0x3F800000#32)))
    (broadcastInDim S80x500x500 ![] bcast_S_S80x500x500 (constant S_ .f32 0x00000000#32))

/-- The area common to every two candidates of a class. -/
def inter (X : FVec Ideal S80x500x4 .f32) : FVec Ideal S80x500x500 .f32 :=
  mulf
    (extent0 (maximumf (left (coord X 0 slices_S80x500x4_S80x500x1_0_0_0)) (right (coord X 0 slices_S80x500x4_S80x500x1_0_0_0)))
      (minimumf (left (coord X 2 slices_S80x500x4_S80x500x1_0_0_2)) (right (coord X 2 slices_S80x500x4_S80x500x1_0_0_2))))
    (extent0 (maximumf (left (coord X 1 slices_S80x500x4_S80x500x1_0_0_1)) (right (coord X 1 slices_S80x500x4_S80x500x1_0_0_1)))
      (minimumf (left (coord X 3 slices_S80x500x4_S80x500x1_0_0_3)) (right (coord X 3 slices_S80x500x4_S80x500x1_0_0_3))))

/-- The candidates' areas. -/
def area (X : FVec Ideal S80x500x4 .f32) : FVec Ideal S80x500 .f32 :=
  mulf (extent (coord X 0 slices_S80x500x4_S80x500x1_0_0_0) (coord X 2 slices_S80x500x4_S80x500x1_0_0_2))
    (extent (coord X 1 slices_S80x500x4_S80x500x1_0_0_1) (coord X 3 slices_S80x500x4_S80x500x1_0_0_3))

/-- The intersection over union of every two candidates of a class. -/
def iou (X : FVec Ideal S80x500x4 .f32) : FVec Ideal S80x500x500 .f32 :=
  Host.divf (inter X) (subf (addf (left (area X)) (right (area X))) (inter X))

/-- The scores of the candidates kept, every other one below every number, in one row. -/
def ranked (K : IVec S80x500 1) (v : FVec Ideal S80x500 .f32) : FVec Ideal S40000 .f32 :=
  shapeCast S40000 (select K v (broadcastInDim S80x500 ![] bcast_S_S80x500 (constant S_ .f32 0xFF800000#32))) shapeCasts_S80x500_S40000

/-- The detections' scores. -/
def outScores (K : IVec S80x500 1) (v : FVec Ideal S80x500 .f32) : FVec Ideal S100 .f32 :=
  (Host.topK S100 0 (FloatOps.cmpfTotal .gt) (ranked K v) sliceFits_S40000_S100).1

/-- The detections' positions among the candidates, counted from the end where negative. -/
def outAt (K : IVec S80x500 1) (v : FVec Ideal S80x500 .f32) : IVec S100x1 32 :=
  let I : IVec S100 32 := (Host.topK S100 0 (FloatOps.cmpfTotal .gt) (ranked K v) sliceFits_S40000_S100).2
  broadcastInDim S100x1 ![0] bcast_S100_S100x1_0
    (select (cmpi .slt I (broadcastInDim S100 ![] bcast_S_S100 (constantI S_ 32 0#32)))
      (addi I (broadcastInDim S100 ![] bcast_S_S100 (constantI S_ 32 40000#32))) I)

/-- The detections' boxes. -/
def outBoxes (C : FVec Ideal S80x500x4 .f32) (K : IVec S80x500 1) (v : FVec Ideal S80x500 .f32) : FVec Ideal S100x4 .f32 :=
  Host.gather gather_S40000x4_S100x1_S100x4_1_0_n_n_0_1_14 (shapeCast S40000x4 C shapeCasts_S80x500x4_S40000x4) (outAt K v)

/-- The detections' labels. -/
def outLabels (K : IVec S80x500 1) (v : FVec Ideal S80x500 .f32) : IVec S100 32 :=
  Host.gather gather_S40000_S100x1_S100_n_0_n_n_0_1_1
    (shapeCast S40000 (broadcastInDim S80x500 ![0, 1] bcast_S80x1_S80x500_0_1
      (broadcastInDim S80x1 ![0] bcast_S80_S80x1_0
        (addi (broadcastInDim S80 ![] bcast_S_S80 (constantI S_ 32 1#32)) (iotaInDim S80 32 0)))) shapeCasts_S80x500_S40000) (outAt K v)

end Cert.ReferenceIdeal.Terms

end
-- ==== Proof.RefRun.lean ====
/-
  The reference program's run: the contents of its buffers between one stretch of operations and the next, its arguments
  unchanged by every stretch and by every trip of the loop, and its results at what the last stretch leaves.
-/
module

public import proofs.«01_k».proof.Defs
public import proofs.«01_k».proof.Proof.Gen.ReferenceIdeal.Run
public import Idealize.ShloMosaic.Lib.Quiescent

@[expose] public section

set_option maxRecDepth 16384

noncomputable section

namespace Cert.ReferenceIdeal.Stages

open Cert.ReferenceIdeal Cert.ReferenceIdeal.Gen Cert.ReferenceIdeal.Value
open Idealize.ShloMosaic Idealize.ShloMosaic.TcCoe Idealize.ShloMosaic.StableHlo
open Idealize.SL.Sem

variable {F : FTy → Type} [FloatOps F]
variable (m : (ℓ : Loc nD τ sig) → Buf (Elt F) ℓ) (c : Dev nD)

/-- The contents after each stretch before the loop. -/
def A0 : Valuation τ sig (Elt F) := after hostOps0 (launchContents m c)
def A1 : Valuation τ sig (Elt F) := after hostOps0_1 (A0 m c)
def A2 : Valuation τ sig (Elt F) := after hostOps0_2 (A1 m c)
def A3 : Valuation τ sig (Elt F) := after hostOps0_3 (A2 m c)
def A4 : Valuation τ sig (Elt F) := after hostOps0_4 (A3 m c)
def A5 : Valuation τ sig (Elt F) := after hostOps0_5 (A4 m c)
def A6 : Valuation τ sig (Elt F) := after hostOps0_6 (A5 m c)
def A7 : Valuation τ sig (Elt F) := after hostOps0_7 (A6 m c)
def A8 : Valuation τ sig (Elt F) := after hostOps0_8 (A7 m c)
def A9 : Valuation τ sig (Elt F) := after hostOps0_9 (A8 m c)
def A10 : Valuation τ sig (Elt F) := after hostOps0_10 (A9 m c)
def A11 : Valuation τ sig (Elt F) := after hostOps0_11 (A10 m c)
def A12 : Valuation τ sig (Elt F) := after hostOps0_12 (A11 m c)
/-- The contents when the loop has ended. -/
def L0 : Valuation τ sig (Elt F) := after condOps (atK m 500 c)
/-- The contents after each stretch behind the loop. -/
def B0 : Valuation τ sig (Elt F) := after hostOps0_13 (L0 m c)
def B1 : Valuation τ sig (Elt F) := after hostOps0_14 (B0 m c)
def B2 : Valuation τ sig (Elt F) := after hostOps0_15 (B1 m c)

theorem entry_eq : entryContents preI m c = A12 m c := rfl
theorem final_eq : finalContents condOps preI bodyI postI 500 m c = B2 m c := rfl

variable {m c}
theorem A0_of {r : Ref sig .tc} (h : r ∉ hostOps0_W) : A0 m c (Proc.devRef .tc r) = m ((c.tc : Thread nD τ).loc r) :=
  after_of_writes_sub hostOps0 _ hostOps0_writes h
theorem A1_of {r : Ref sig .tc} (h : r ∉ hostOps0_1_W) : A1 m c (Proc.devRef .tc r) = A0 m c (Proc.devRef .tc r) :=
  after_of_writes_sub hostOps0_1 _ hostOps0_1_writes h
theorem A2_of {r : Ref sig .tc} (h : r ∉ hostOps0_2_W) : A2 m c (Proc.devRef .tc r) = A1 m c (Proc.devRef .tc r) :=
  after_of_writes_sub hostOps0_2 _ hostOps0_2_writes h
theorem A3_of {r : Ref sig .tc} (h : r ∉ hostOps0_3_W) : A3 m c (Proc.devRef .tc r) = A2 m c (Proc.devRef .tc r) :=
  after_of_writes_sub hostOps0_3 _ hostOps0_3_writes h
theorem A4_of {r : Ref sig .tc} (h : r ∉ hostOps0_4_W) : A4 m c (Proc.devRef .tc r) = A3 m c (Proc.devRef .tc r) :=
  after_of_writes_sub hostOps0_4 _ hostOps0_4_writes h
theorem A5_of {r : Ref sig .tc} (h : r ∉ hostOps0_5_W) : A5 m c (Proc.devRef .tc r) = A4 m c (Proc.devRef .tc r) :=
  after_of_writes_sub hostOps0_5 _ hostOps0_5_writes h
theorem A6_of {r : Ref sig .tc} (h : r ∉ hostOps0_6_W) : A6 m c (Proc.devRef .tc r) = A5 m c (Proc.devRef .tc r) :=
  after_of_writes_sub hostOps0_6 _ hostOps0_6_writes h
theorem A7_of {r : Ref sig .tc} (h : r ∉ hostOps0_7_W) : A7 m c (Proc.devRef .tc r) = A6 m c (Proc.devRef .tc r) :=
  after_of_writes_sub hostOps0_7 _ hostOps0_7_writes h
theorem A8_of {r : Ref sig .tc} (h : r ∉ hostOps0_8_W) : A8 m c (Proc.devRef .tc r) = A7 m c (Proc.devRef .tc r) :=
  after_of_writes_sub hostOps0_8 _ hostOps0_8_writes h
theorem A9_of {r : Ref sig .tc} (h : r ∉ hostOps0_9_W) : A9 m c (Proc.devRef .tc r) = A8 m c (Proc.devRef .tc r) :=
  after_of_writes_sub hostOps0_9 _ hostOps0_9_writes h
theorem A10_of {r : Ref sig .tc} (h : r ∉ hostOps0_10_W) : A10 m c (Proc.devRef .tc r) = A9 m c (Proc.devRef .tc r) :=
  after_of_writes_sub hostOps0_10 _ hostOps0_10_writes h
theorem A11_of {r : Ref sig .tc} (h : r ∉ hostOps0_11_W) : A11 m c (Proc.devRef .tc r) = A10 m c (Proc.devRef .tc r) :=
  after_of_writes_sub hostOps0_11 _ hostOps0_11_writes h
theorem A12_of {r : Ref sig .tc} (h : r ∉ hostOps0_12_W) : A12 m c (Proc.devRef .tc r) = A11 m c (Proc.devRef .tc r) :=
  after_of_writes_sub hostOps0_12 _ hostOps0_12_writes h
/-- A buffer that the loop's condition and its body leave alone is after any number of trips as at the loop's entry. -/
theorem atK_of {r : Ref sig .tc} (hc : r ∉ condOps_W) (hb : r ∉ while0Ops0_W) :
    ∀ k, atK m k c (Proc.devRef .tc r) = A12 m c (Proc.devRef .tc r)
  | 0 => rfl
  | k + 1 => by
    refine Eq.trans ?_ (atK_of hc hb k)
    show after while0Ops0 (after condOps (atK m k c)) (Proc.devRef .tc r) = _
    exact (after_of_writes_sub while0Ops0 _ while0Ops0_writes hb).trans (after_of_writes_sub condOps _ condOps_writes hc)
theorem L0_of {r : Ref sig .tc} (hc : r ∉ condOps_W) (hb : r ∉ while0Ops0_W) :
    L0 m c (Proc.devRef .tc r) = A12 m c (Proc.devRef .tc r) :=
  (after_of_writes_sub condOps _ condOps_writes hc).trans (atK_of hc hb 500)
theorem B0_of {r : Ref sig .tc} (h : r ∉ [main_cst_37]) : B0 m c (Proc.devRef .tc r) = L0 m c (Proc.devRef .tc r) :=
  after_of_writes_sub hostOps0_13 (W := [main_cst_37]) _ (forall_writes_sub_of_map rfl) h
theorem B1_of {r : Ref sig .tc} (h : r ∉ [main_call6_v0, main_call6_v1, main_v192]) : B1 m c (Proc.devRef .tc r) = B0 m c (Proc.devRef .tc r) :=
  after_of_writes_sub hostOps0_14 (W := [main_call6_v0, main_call6_v1, main_v192]) _ (forall_writes_sub_of_map rfl) h

/-- The references the last stretch writes. -/
abbrev lastW : List (Ref sig .tc) :=
  [main_v193, main_v194, main_v195, main_c_38, main_v196, main_v197, main_v198, main_v199, main_v200, main_values_39, main_indices_40,
   main_c_41, main_v201, main_v202, main_c_42, main_v203, main_v204, main_v205, main_v206, main_v207, main_c_43, main_v208, main_v209,
   main_c_44, main_v210, main_v211, main_v212, main_v213, main_v214]
theorem B2_of {r : Ref sig .tc} (h : r ∉ lastW) : B2 m c (Proc.devRef .tc r) = B1 m c (Proc.devRef .tc r) :=
  after_of_writes_sub hostOps0_15 (W := lastW) _ (forall_writes_sub_of_map rfl) h

/-- The arguments are left alone up to any stretch before the loop. -/
theorem A12_arg {r : Ref sig .tc} (h : r ∈ [main_arg0, main_arg1, main_arg2]) : A12 m c (Proc.devRef .tc r) = m ((c.tc : Thread nD τ).loc r) := by
  fin_cases h <;>
  exact (A12_of (by decide)).trans <| (A11_of (by decide)).trans <| (A10_of (by decide)).trans <| (A9_of (by decide)).trans <|
    (A8_of (by decide)).trans <| (A7_of (by decide)).trans <| (A6_of (by decide)).trans <| (A5_of (by decide)).trans <|
    (A4_of (by decide)).trans <| (A3_of (by decide)).trans <| (A2_of (by decide)).trans <| (A1_of (by decide)).trans <|
    A0_of (by decide)
/-- The arguments at the end are as launched. -/
theorem B2_arg {r : Ref sig .tc} (h : r ∈ [main_arg0, main_arg1, main_arg2]) : B2 m c (Proc.devRef .tc r) = m ((c.tc : Thread nD τ).loc r) := by
  refine Eq.trans ?_ (A12_arg h)
  fin_cases h <;>
  exact (B2_of (by decide)).trans <| (B1_of (by decide)).trans <| (B0_of (by decide)).trans <| L0_of (by decide) (by decide)

variable (m) in
/-- Every buffer that holds a value of the program ends at the last stretch's contents. -/
theorem run_all (ρ : Dev nD → PrngReg) : θ_run defs (onTc (τ := τ) (main (F := F))) ⟨m, fun _ => 0, ρ⟩ (fun r => ∀ (c : Dev nD) (b : Ref sig .tc),
      (Proc.devRef .tc b : DevRef τ sig).isScoped = false → r.2.mem ((c.tc : Thread nD τ).loc b) = B2 m c (Proc.devRef .tc b)) := by
  have h := run_fold (F := F) m ρ
  simp only [final_eq] at h
  exact h

set_option maxRecDepth 100000 in
variable (m) in
/-- Every run of the reference ends with its results at the last stretch's contents and its arguments as launched. -/
theorem run (ρ : Dev nD → PrngReg) : θ_run defs (onTc (τ := τ) (main (F := F))) ⟨m, fun _ => 0, ρ⟩ (fun r => ∀ c : Dev nD,
      r.2.mem ((c.tc : Thread nD τ).loc main_values_39) = B2 m c (Proc.devRef .tc main_values_39)
      ∧ r.2.mem ((c.tc : Thread nD τ).loc main_v207) = B2 m c (Proc.devRef .tc main_v207)
      ∧ r.2.mem ((c.tc : Thread nD τ).loc main_v214) = B2 m c (Proc.devRef .tc main_v214)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨h c main_values_39 (by decide), h c main_v207 (by decide), h c main_v214 (by decide),
    (h c main_arg0 (by decide)).trans (B2_arg (by decide)), (h c main_arg1 (by decide)).trans (B2_arg (by decide)),
    (h c main_arg2 (by decide)).trans (B2_arg (by decide))⟩) (run_all m ρ)

/-- The reference leaves its arguments unchanged and, having no semaphore, every counter at zero. -/
theorem quiescent : Cert.quiescent_ReferenceIdeal := fun m ρ _ =>
  (θ_run defs _ _).mono (fun r h => ⟨fun c => (h c).2.2.2, sem_eq_zero_of_no_sems (by decide) r.2⟩) (run (F := Ideal) m ρ)

end Cert.ReferenceIdeal.Stages

end
-- ==== Proof.RefDense.lean ====
/-
  The reference's dense stage: the class probabilities and the four clipped coordinates of every decoded box, as arrays of
  the arguments and at an index.
-/
module

public import proofs.«01_k».proof.Proof.Terms
public import proofs.«01_k».proof.Proof.RefRun
public import Idealize.ShloMosaic.Lib.StableHlo.RunRead
public import Idealize.ShloMosaic.Lib.StableHlo.ReadAt
public import Idealize.ShloMosaic.Lib.Pointwise

@[expose] public section

set_option maxRecDepth 16384

noncomputable section

namespace Cert.ReferenceIdeal.Dense

open Cert.ReferenceIdeal Cert.ReferenceIdeal.Gen
open Idealize.ShloMosaic Idealize.ShloMosaic.TcCoe Idealize.ShloMosaic.Tactic Idealize.ShloMosaic.StableHlo
open Cert.ReferenceIdeal.Terms

/-- One coordinate of the proposals. -/
def corner (P : FVec Ideal S20000x4 .f32) (k : ℕ) (h : S20000x4.Slices ![0, k] S20000x1) : FVec Ideal S20000 .f32 :=
  shapeCast S20000 (extractStridedSlice S20000x1 ![0, k] P h) shapeCasts_S20000x1_S20000

/-- A proposal's size between two coordinates. -/
def size (lo hi : FVec Ideal S20000 .f32) : FVec Ideal S20000 .f32 :=
  addf (subf hi lo) (broadcastInDim S20000 ![] bcast_S_S20000 (constant S_ .f32 0x3F800000#32))

/-- A proposal's centre. -/
def centre (lo w : FVec Ideal S20000 .f32) : FVec Ideal S20000 .f32 :=
  addf lo (mulf (broadcastInDim S20000 ![] bcast_S_S20000 (constant S_ .f32 0x3F000000#32)) w)

/-- One number a proposal, the same for every class. -/
def rows (x : FVec Ideal S20000 .f32) : FVec Ideal S20000x81 .f32 :=
  broadcastInDim S20000x81 ![0, 1] bcast_S20000x1_S20000x81_0_1 (broadcastInDim S20000x1 ![0] bcast_S20000_S20000x1_0 x)

/-- One number everywhere. -/
def all (b : BitVec 32) : FVec Ideal S20000x81 .f32 :=
  broadcastInDim S20000x81 ![] bcast_S_S20000x81 (constant S_ .f32 b)

/-- The decoded centre, of the shift, the size and the centre. -/
def centre' (d : FVec Ideal S20000x81 .f32) (w c : FVec Ideal S20000 .f32) : FVec Ideal S20000x81 .f32 :=
  addf (mulf (Host.divf d (all 0x41200000#32)) (rows w)) (rows c)

/-- The decoded size, of the logarithm of the scale and the size. -/
def size' (d : FVec Ideal S20000x81 .f32) (w : FVec Ideal S20000 .f32) : FVec Ideal S20000x81 .f32 :=
  mulf (Host.exp (minimumf (Host.divf d (all 0x40A00000#32)) (all 0x40845349#32))) (rows w)

/-- The lower end. -/
def low (p s : FVec Ideal S20000x81 .f32) : FVec Ideal S20000x81 .f32 := subf p (mulf (all 0x3F000000#32) s)

/-- The upper end. -/
def high (p s : FVec Ideal S20000x81 .f32) : FVec Ideal S20000x81 .f32 := subf (addf p (mulf (all 0x3F000000#32) s)) (all 0x3F800000#32)

/-- Between nought and a bound. -/
def clip (b : BitVec 32) (x : FVec Ideal S20000x81 .f32) : FVec Ideal S20000x81 .f32 :=
  minimumf (all b) (maximumf (all 0x00000000#32) x)

/-- One of the four arrays laid side by side. -/
def pick (k : ℕ) (h : S20000x81x4.Slices ![0, 0, k] S20000x81x1) (B : FVec Ideal S20000x81x4 .f32) : FVec Ideal S20000x81 .f32 :=
  shapeCast S20000x81 (extractStridedSlice S20000x81x1 ![0, 0, k] B h) shapeCasts_S20000x81x1_S20000x81

theorem pick_0 (a b c d : FVec Ideal S20000x81 .f32) : pick 0 slices_S20000x81x4_S20000x81x1_0_0_0 (stack a b c d) = a := by
  funext j
  rw [eq_ix2 j]
  pointwise [pick, stack]
theorem pick_1 (a b c d : FVec Ideal S20000x81 .f32) : pick 1 slices_S20000x81x4_S20000x81x1_0_0_1 (stack a b c d) = b := by
  funext j
  rw [eq_ix2 j]
  pointwise [pick, stack]
theorem pick_2 (a b c d : FVec Ideal S20000x81 .f32) : pick 2 slices_S20000x81x4_S20000x81x1_0_0_2 (stack a b c d) = c := by
  funext j
  rw [eq_ix2 j]
  pointwise [pick, stack]
theorem pick_3 (a b c d : FVec Ideal S20000x81 .f32) : pick 3 slices_S20000x81x4_S20000x81x1_0_0_3 (stack a b c d) = d := by
  funext j
  rw [eq_ix2 j]
  pointwise [pick, stack]

/-- The largest logit of every row. -/
def rowMax (L : FVec Ideal S20000x81 .f32) : FVec Ideal S20000 .f32 :=
  Host.reduce FloatOps.maximumf L (constant S_ .f32 0xFF800000#32) reducesTo_S20000x81_S20000_d1 h_S_

/-- The exponentials of the logits less their row's largest. -/
def weights (L : FVec Ideal S20000x81 .f32) : FVec Ideal S20000x81 .f32 :=
  Host.exp (subf L (rows (maximumf (broadcastInDim S20000 ![] bcast_S_S20000 (constant S_ .f32 0xFF800000#32)) (rowMax L))))

/-- The sum of every row. -/
def rowSum (E : FVec Ideal S20000x81 .f32) : FVec Ideal S20000 .f32 :=
  Host.reduceAdd E (constant S_ .f32 0x00000000#32) reducesTo_S20000x81_S20000_d1 h_S_

/-- The class probabilities. -/
def probs (L : FVec Ideal S20000x81 .f32) : FVec Ideal S20000x81 .f32 := Host.divf (weights L) (rows (rowSum (weights L)))

variable (V : Valuation τ sig (Elt Ideal))

theorem s0_v10 : after hostOps0 V (Proc.devRef .tc main_v10) = probs (V (Proc.devRef .tc main_arg0)) := by
  after_reads_simp
  rfl

/-- The four ends of every decoded box, before they are clipped. -/
def ends (D : FVec Ideal S20000x324 .f32) (P : FVec Ideal S20000x4 .f32) : FVec Ideal S20000x81x4 .f32 :=
  let x1 := corner P 0 slices_S20000x4_S20000x1_0_0
  let y1 := corner P 1 slices_S20000x4_S20000x1_0_1
  let w := size x1 (corner P 2 slices_S20000x4_S20000x1_0_2)
  let h := size y1 (corner P 3 slices_S20000x4_S20000x1_0_3)
  let px := centre' (Host.slice S20000x81 ![0, 0] ![1, 4] D slicesBy_S20000x324_S20000x81_0s1_0s4) w (centre x1 w)
  let py := centre' (Host.slice S20000x81 ![0, 1] ![1, 4] D slicesBy_S20000x324_S20000x81_0s1_1s4) h (centre y1 h)
  let sx := size' (Host.slice S20000x81 ![0, 2] ![1, 4] D slicesBy_S20000x324_S20000x81_0s1_2s4) w
  let sy := size' (Host.slice S20000x81 ![0, 3] ![1, 4] D slicesBy_S20000x324_S20000x81_0s1_3s4) h
  stack (low px sx) (low py sy) (high px sx) (high py sy)

theorem s0_v91 : after hostOps0 V (Proc.devRef .tc main_v91) = ends (V (Proc.devRef .tc main_arg1)) (V (Proc.devRef .tc main_arg2)) := by
  after_reads_simp
  rfl
theorem s0_v93 : after hostOps0 V (Proc.devRef .tc main_v93) = pick 0 slices_S20000x81x4_S20000x81x1_0_0_0 (ends (V (Proc.devRef .tc main_arg1)) (V (Proc.devRef .tc main_arg2))) := by
  after_reads_simp
  rfl
theorem s1_v94 (h0 : V (Proc.devRef .tc main_cst_18) = constant (F := Ideal) S_ .f32 0x00000000#32)
    (h1 : V (Proc.devRef .tc main_cst_19) = constant (F := Ideal) S_ .f32 0x44A68000#32) :
    after hostOps0_1 V (Proc.devRef .tc main_v94) = clip 0x44A68000#32 (V (Proc.devRef .tc main_v93)) := by
  after_reads_simp
  simp -implicitDefEqProofs only [TRef.toBuf, TRef.ofBuf, cast_cast, cast_eq, h0, h1]
  rfl
theorem s3_v97 : after hostOps0_3 (after hostOps0_2 V) (Proc.devRef .tc main_v97) = clip 0x4447C000#32 (pick 1 slices_S20000x81x4_S20000x81x1_0_0_1 (V (Proc.devRef .tc main_v91))) := by
  after_reads_simp
  simp -implicitDefEqProofs only [TRef.toBuf, TRef.ofBuf, cast_cast, cast_eq]
  rfl
theorem s5_v100 : after hostOps0_5 (after hostOps0_4 V) (Proc.devRef .tc main_v100) = clip 0x44A68000#32 (pick 2 slices_S20000x81x4_S20000x81x1_0_0_2 (V (Proc.devRef .tc main_v91))) := by
  after_reads_simp
  simp -implicitDefEqProofs only [TRef.toBuf, TRef.ofBuf, cast_cast, cast_eq]
  rfl
theorem s7_v103 : after hostOps0_7 (after hostOps0_6 V) (Proc.devRef .tc main_v103) = clip 0x4447C000#32 (pick 3 slices_S20000x81x4_S20000x81x1_0_0_3 (V (Proc.devRef .tc main_v91))) := by
  after_reads_simp
  simp -implicitDefEqProofs only [TRef.toBuf, TRef.ofBuf, cast_cast, cast_eq]
  rfl

end Cert.ReferenceIdeal.Dense

end
-- ==== Proof.RefDenseAt.lean ====
/-
  The reference's dense stage read at an index.
-/
module

public import proofs.«01_k».proof.Proof.RefDense
public import proofs.«01_k».proof.Proof.Scalars
public import Idealize.ShloMosaic.Lib.Pointwise

@[expose] public section

set_option maxRecDepth 16384

noncomputable section

namespace Cert.ReferenceIdeal.Dense

open Cert.ReferenceIdeal Cert.ReferenceIdeal.Gen
open Idealize.ShloMosaic Idealize.ShloMosaic.TcCoe Idealize.ShloMosaic.Tactic Idealize.ShloMosaic.StableHlo
open Cert.ReferenceIdeal.Terms

theorem rowMax_apply (L : FVec Ideal S20000x81 .f32) (n : Fin 20000) : rowMax L (ix1 n) = Scalars.top fun k => L (ix2 n k) := by
  unfold rowMax Scalars.top Scalars.bot
  pointwise
theorem rowSum_apply (E : FVec Ideal S20000x81 .f32) (n : Fin 20000) : rowSum E (ix1 n) = ∑ k, E (ix2 n k) := by
  pointwise [rowSum]
theorem exp_sub_apply (L : FVec Ideal S20000x81 .f32) (M : FVec Ideal S20000 .f32) (n : Fin 20000) (c : Fin 81) :
    (Host.exp (subf L (rows (maximumf (broadcastInDim S20000 ![] bcast_S_S20000 (constant (F := Ideal) S_ .f32 0xFF800000#32)) M))) : FVec Ideal S20000x81 .f32) (ix2 n c)
      = Ideal.exp (L (ix2 n c) - max (Ideal.ofBits FTy.f32 0xFF800000#32) (M (ix1 n))) := by
  pointwise [rows]
theorem weights_apply (L : FVec Ideal S20000x81 .f32) (n : Fin 20000) (c : Fin 81) :
    weights L (ix2 n c) = Ideal.exp (L (ix2 n c) - Scalars.top fun k => L (ix2 n k)) := by
  unfold weights
  rw [exp_sub_apply, rowMax_apply]
  have h := Scalars.bot_le_top fun k => L (ix2 n k)
  unfold Scalars.bot at h
  rw [h]
theorem probs_apply (L : FVec Ideal S20000x81 .f32) (n : Fin 20000) (c : Fin 81) :
    probs L (ix2 n c) = Scalars.prob (fun k => L (ix2 n k)) c := by
  pointwise [probs, rows]
  rw [rowSum_apply]
  simp only [weights_apply]
  unfold Scalars.prob
  rfl

/-- The index of one of a class's four shifts in the flat row of shifts. -/
abbrev at4 (n : Fin 20000) (c : Fin 81) (k : Fin 4) : S20000x324.Idx := ix2 n ⟨k + 4 * c, by omega⟩

section Entries
variable (D : FVec Ideal S20000x324 .f32) (P : FVec Ideal S20000x4 .f32) (n : Fin 20000) (c : Fin 81)
variable (d p s : FVec Ideal S20000x81 .f32) (lo hi w ctr : FVec Ideal S20000 .f32)

theorem size_apply : size lo hi (ix1 n) = Scalars.size (lo (ix1 n)) (hi (ix1 n)) := by
  pointwise [size]
  rfl
theorem centre_apply : centre lo w (ix1 n) = lo (ix1 n) + Scalars.half * w (ix1 n) := by
  pointwise [centre]
  rfl
theorem centre'_apply : centre' d w ctr (ix2 n c) = Ideal.div (d (ix2 n c)) Scalars.ten * w (ix1 n) + ctr (ix1 n) := by
  pointwise [centre', all, rows]
  rfl
theorem size'_apply : size' d w (ix2 n c) = Ideal.exp (min (Ideal.div (d (ix2 n c)) Scalars.five) Scalars.cap) * w (ix1 n) := by
  pointwise [size', all, rows]
  rfl
theorem low_apply : low p s (ix2 n c) = p (ix2 n c) - Scalars.half * s (ix2 n c) := by
  pointwise [low, all]
  rfl
theorem high_apply : high p s (ix2 n c) = p (ix2 n c) + Scalars.half * s (ix2 n c) - 1 := by
  pointwise [high, all]
  rfl
theorem clip_apply (b : BitVec 32) : clip b p (ix2 n c) = min (Ideal.ofBits FTy.f32 b) (max 0 (p (ix2 n c))) := by
  pointwise [clip, all]
theorem corner_0 : corner P 0 slices_S20000x4_S20000x1_0_0 (ix1 n) = P (ix2 n 0) := by pointwise [corner]
theorem corner_1 : corner P 1 slices_S20000x4_S20000x1_0_1 (ix1 n) = P (ix2 n 1) := by pointwise [corner]
theorem corner_2 : corner P 2 slices_S20000x4_S20000x1_0_2 (ix1 n) = P (ix2 n 2) := by pointwise [corner]
theorem corner_3 : corner P 3 slices_S20000x4_S20000x1_0_3 (ix1 n) = P (ix2 n 3) := by pointwise [corner]
theorem shift_0 : Host.slice S20000x81 ![0, 0] ![1, 4] D slicesBy_S20000x324_S20000x81_0s1_0s4 (ix2 n c) = D (at4 n c 0) := by
  pointwise
  exact congrArg D (by simp [at4])
theorem shift_1 : Host.slice S20000x81 ![0, 1] ![1, 4] D slicesBy_S20000x324_S20000x81_0s1_1s4 (ix2 n c) = D (at4 n c 1) := by
  pointwise
  rfl
theorem shift_2 : Host.slice S20000x81 ![0, 2] ![1, 4] D slicesBy_S20000x324_S20000x81_0s1_2s4 (ix2 n c) = D (at4 n c 2) := by
  pointwise
  rfl
theorem shift_3 : Host.slice S20000x81 ![0, 3] ![1, 4] D slicesBy_S20000x324_S20000x81_0s1_3s4 (ix2 n c) = D (at4 n c 3) := by
  pointwise
  rfl

theorem x1_apply : clip 0x44A68000#32 (pick 0 slices_S20000x81x4_S20000x81x1_0_0_0 (ends D P)) (ix2 n c)
    = Scalars.low Scalars.right (D (at4 n c 0)) (D (at4 n c 2)) (P (ix2 n 0)) (P (ix2 n 2)) := by
  rw [ends, pick_0, clip_apply, low_apply, centre'_apply, size'_apply, centre_apply, size_apply, corner_0, corner_2, shift_0, shift_2]
  rfl
theorem y1_apply : clip 0x4447C000#32 (pick 1 slices_S20000x81x4_S20000x81x1_0_0_1 (ends D P)) (ix2 n c)
    = Scalars.low Scalars.bottom (D (at4 n c 1)) (D (at4 n c 3)) (P (ix2 n 1)) (P (ix2 n 3)) := by
  rw [ends, pick_1, clip_apply, low_apply, centre'_apply, size'_apply, centre_apply, size_apply, corner_1, corner_3, shift_1, shift_3]
  rfl
theorem x2_apply : clip 0x44A68000#32 (pick 2 slices_S20000x81x4_S20000x81x1_0_0_2 (ends D P)) (ix2 n c)
    = Scalars.high Scalars.right (D (at4 n c 0)) (D (at4 n c 2)) (P (ix2 n 0)) (P (ix2 n 2)) := by
  rw [ends, pick_2, clip_apply, high_apply, centre'_apply, size'_apply, centre_apply, size_apply, corner_0, corner_2, shift_0, shift_2]
  rfl
theorem y2_apply : clip 0x4447C000#32 (pick 3 slices_S20000x81x4_S20000x81x1_0_0_3 (ends D P)) (ix2 n c)
    = Scalars.high Scalars.bottom (D (at4 n c 1)) (D (at4 n c 3)) (P (ix2 n 1)) (P (ix2 n 3)) := by
  rw [ends, pick_3, clip_apply, high_apply, centre'_apply, size'_apply, centre_apply, size_apply, corner_1, corner_3, shift_1, shift_3]
  rfl
end Entries

end Cert.ReferenceIdeal.Dense

end
-- ==== Proof.KernelDense.lean ====
/-
  The kernel's dense stage: what its ten points leave in the five result arrays, at an index of the arguments.
-/
module

public import proofs.«01_k».proof.Proof.Scalars
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Dense

open Cert.KernelIdeal Cert.KernelIdeal.Gen
open Idealize.ShloMosaic Idealize.ShloMosaic.TcCoe Idealize.ShloMosaic.Tactic

section Payloads
variable (n : Fin 2000) (c : Fin 81) (P : Vec Ideal S2000x4 .f32) (w ctr : FVec Ideal S2000x1 .f32) (d p s : FVec Ideal S2000x81 .f32)
variable (D : Vec Ideal S1x2000x81 .f32)

theorem pay4_apply : k0_pay4 (F := Ideal) P (ix2 n 0) = Scalars.size (P (ix2 n 0)) (P (ix2 n 2)) := by
  pointwise [k0_pay4]
  rfl
theorem pay5_apply : k0_pay5 (F := Ideal) P (ix2 n 0) = Scalars.size (P (ix2 n 1)) (P (ix2 n 3)) := by
  pointwise [k0_pay5]
  rfl
theorem pay6_apply : k0_pay6 (F := Ideal) P (ix2 n 0) = P (ix2 n 0) + Scalars.half * k0_pay4 P (ix2 n 0) := by
  pointwise [k0_pay6]
  rfl
theorem pay7_apply : k0_pay7 (F := Ideal) P (ix2 n 0) = P (ix2 n 1) + Scalars.half * k0_pay5 P (ix2 n 0) := by
  pointwise [k0_pay7]
  rfl
theorem pay8_apply : k0_pay8 (F := Ideal) D (ix2 n c) = Ideal.div (D (ix3 0 n c)) Scalars.ten := by
  pointwise [k0_pay8]
  rfl
theorem pay9_apply : k0_pay9 (F := Ideal) D (ix2 n c) = Ideal.div (D (ix3 0 n c)) Scalars.ten := by
  pointwise [k0_pay9]
  rfl
theorem pay10_apply : k0_pay10 (F := Ideal) w ctr d (ix2 n c) = d (ix2 n c) * w (ix2 n 0) + ctr (ix2 n 0) := by
  pointwise [k0_pay10]
theorem pay11_apply : k0_pay11 (F := Ideal) w ctr d (ix2 n c) = d (ix2 n c) * w (ix2 n 0) + ctr (ix2 n 0) := by
  pointwise [k0_pay11]
theorem pay12_apply : k0_pay12 (F := Ideal) w D (ix2 n c) = Ideal.exp (min (Ideal.div (D (ix3 0 n c)) Scalars.five) Scalars.cap) * w (ix2 n 0) := by
  pointwise [k0_pay12]
  rfl
theorem pay13_apply : k0_pay13 (F := Ideal) w D (ix2 n c) = Ideal.exp (min (Ideal.div (D (ix3 0 n c)) Scalars.five) Scalars.cap) * w (ix2 n 0) := by
  pointwise [k0_pay13]
  rfl
theorem pay14_apply : k0_pay14 (F := Ideal) w ctr d D (ix2 n c) = min Scalars.right (max 0 (k0_pay10 w ctr d (ix2 n c) - Scalars.half * k0_pay12 w D (ix2 n c))) := by
  pointwise [k0_pay14]
  rfl
theorem pay15_apply : k0_pay15 (F := Ideal) w ctr d D (ix2 n c) = min Scalars.bottom (max 0 (k0_pay11 w ctr d (ix2 n c) - Scalars.half * k0_pay13 w D (ix2 n c))) := by
  pointwise [k0_pay15]
  rfl
theorem pay1_apply : k0_pay1 (F := Ideal) p s (ix2 n c) = min Scalars.right (max 0 (p (ix2 n c) + Scalars.half * s (ix2 n c) - 1)) := by
  pointwise [k0_pay1]
  rfl
theorem pay2_apply : k0_pay2 (F := Ideal) p s (ix2 n c) = min Scalars.bottom (max 0 (p (ix2 n c) + Scalars.half * s (ix2 n c) - 1)) := by
  pointwise [k0_pay2]
  rfl
theorem pay3_apply : k0_pay3 (F := Ideal) d (ix2 n c) = Scalars.prob (fun k => d (ix2 n k)) c := by
  pointwise [k0_pay3]
  rfl
end Payloads

section Blocks
variable (x0 : Vec Ideal S2000x81 .f32) (x1 : Vec Ideal S4x2000x81 .f32) (x2 : Vec Ideal S2000x4 .f32) (n : Fin 2000) (c : Fin 81)

theorem out3_apply : out0_3 x0 x1 x2 (ix2 n c) = Scalars.prob (fun k => x0 (ix2 n k)) c := by
  frame_out
  exact pay3_apply n c x0
theorem ld_P (k : Fin 4) : View.ld x2 r0_1 (ix2 n k) = x2 (ix2 n k) := by
  refine View.ld_unit_apply_of _ _ _ _ _ _ fun a => ?_
  fin_cases a <;> simp
theorem ld_0 : View.ld x1 r0_2 (ix3 0 n c) = x1 (ix3 0 n c) := by
  refine View.ld_unit_apply_of _ _ _ _ _ _ fun a => ?_
  fin_cases a <;> simp
theorem ld_1 : View.ld x1 r0_3 (ix3 0 n c) = x1 (ix3 1 n c) := by
  refine View.ld_unit_apply_of _ _ _ _ _ _ fun a => ?_
  fin_cases a <;> simp
theorem ld_2 : View.ld x1 r0_4 (ix3 0 n c) = x1 (ix3 2 n c) := by
  refine View.ld_unit_apply_of _ _ _ _ _ _ fun a => ?_
  fin_cases a <;> simp
theorem ld_3 : View.ld x1 r0_5 (ix3 0 n c) = x1 (ix3 3 n c) := by
  refine View.ld_unit_apply_of _ _ _ _ _ _ fun a => ?_
  fin_cases a <;> simp

theorem out4_apply : out0_4 x0 x1 x2 (ix2 n c) = Scalars.low Scalars.right (x1 (ix3 0 n c)) (x1 (ix3 2 n c)) (x2 (ix2 n 0)) (x2 (ix2 n 2)) := by
  frame_out
  simp only [k0_pay16, k0_pay18, k0_pay20]
  rw [pay14_apply, pay10_apply, pay12_apply, pay8_apply, pay6_apply, pay4_apply, ld_0, ld_2, ld_P, ld_P]
  rfl
theorem out5_apply : out0_5 x0 x1 x2 (ix2 n c) = Scalars.low Scalars.bottom (x1 (ix3 1 n c)) (x1 (ix3 3 n c)) (x2 (ix2 n 1)) (x2 (ix2 n 3)) := by
  frame_out
  simp only [k0_pay17, k0_pay19, k0_pay21]
  rw [pay15_apply, pay11_apply, pay13_apply, pay9_apply, pay7_apply, pay5_apply, ld_1, ld_3, ld_P, ld_P]
  rfl
theorem out6_apply : out0_6 x0 x1 x2 (ix2 n c) = Scalars.high Scalars.right (x1 (ix3 0 n c)) (x1 (ix3 2 n c)) (x2 (ix2 n 0)) (x2 (ix2 n 2)) := by
  frame_out
  simp only [k0_pay16, k0_pay18, k0_pay20]
  rw [pay1_apply, pay10_apply, pay12_apply, pay8_apply, pay6_apply, pay4_apply, ld_0, ld_2, ld_P, ld_P]
  rfl
theorem out7_apply : out0_7 x0 x1 x2 (ix2 n c) = Scalars.high Scalars.bottom (x1 (ix3 1 n c)) (x1 (ix3 3 n c)) (x2 (ix2 n 1)) (x2 (ix2 n 3)) := by
  frame_out
  simp only [k0_pay17, k0_pay19, k0_pay21]
  rw [pay2_apply, pay11_apply, pay13_apply, pay9_apply, pay7_apply, pay5_apply, ld_1, ld_3, ld_P, ld_P]
  rfl
end Blocks

section Arrays
variable (V : (c : Dev nD) → (b : Ref sig .tc) → Buf (Elt Ideal) ((c : Thread nD τ).loc b)) (c : Dev nD)

theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The class probabilities as one array of the logits. -/
def probs (L : FVec Ideal S20000x81 .f32) : FVec Ideal S20000x81 .f32 := fun j => Scalars.prob (fun k => L (ix2 (j 0) k)) (j 1)

/-- A clipped lower end as one array of the shifts' planes and the proposals. -/
def lows (b : EReal) (k l : Fin 4) (p q : Fin 4) (D : FVec Ideal S4x20000x81 .f32) (P : FVec Ideal S20000x4 .f32) : FVec Ideal S20000x81 .f32 :=
  fun j => Scalars.low b (D (ix3 k (j 0) (j 1))) (D (ix3 l (j 0) (j 1))) (P (ix2 (j 0) p)) (P (ix2 (j 0) q))

/-- A clipped upper end. -/
def highs (b : EReal) (k l : Fin 4) (p q : Fin 4) (D : FVec Ideal S4x20000x81 .f32) (P : FVec Ideal S20000x4 .f32) : FVec Ideal S20000x81 .f32 :=
  fun j => Scalars.high b (D (ix3 k (j 0) (j 1))) (D (ix3 l (j 0) (j 1))) (P (ix2 (j 0) p)) (P (ix2 (j 0) q))

theorem final3 : (dat0 V c).arrAt 3 cfg0.N = probs (V c main_arg0) := by
  refine (dat0 V c).arrAt_eq_of_covers 3 _ (by decide +kernel) fun t _ y => ?_
  blk_simp
  rw [after0_3]
  obtain ⟨n, q, rfl⟩ : ∃ (n : Fin 2000) (q : Fin 81), y = ix2 n q := ⟨y 0, y 1, eq_ix2 y⟩
  refine (out3_apply _ _ _ n q).trans ?_
  simp only [probs, Scalars.prob, Scalars.top]
  blk_point [iblk0, idx t]
theorem final4 : (dat0 V c).arrAt 4 cfg0.N = lows Scalars.right 0 2 0 2 (V c main_v1) (V c main_arg2) := by
  refine (dat0 V c).arrAt_eq_of_covers 4 _ (by decide +kernel) fun t _ y => ?_
  blk_simp
  rw [after0_4]
  obtain ⟨n, q, rfl⟩ : ∃ (n : Fin 2000) (q : Fin 81), y = ix2 n q := ⟨y 0, y 1, eq_ix2 y⟩
  refine (out4_apply _ _ _ n q).trans ?_
  simp only [lows, Scalars.low, Scalars.centre, Scalars.extent, Scalars.size]
  blk_point [iblk0, idx t]
theorem final5 : (dat0 V c).arrAt 5 cfg0.N = lows Scalars.bottom 1 3 1 3 (V c main_v1) (V c main_arg2) := by
  refine (dat0 V c).arrAt_eq_of_covers 5 _ (by decide +kernel) fun t _ y => ?_
  blk_simp
  rw [after0_5]
  obtain ⟨n, q, rfl⟩ : ∃ (n : Fin 2000) (q : Fin 81), y = ix2 n q := ⟨y 0, y 1, eq_ix2 y⟩
  refine (out5_apply _ _ _ n q).trans ?_
  simp only [lows, Scalars.low, Scalars.centre, Scalars.extent, Scalars.size]
  blk_point [iblk0, idx t]
theorem final6 : (dat0 V c).arrAt 6 cfg0.N = highs Scalars.right 0 2 0 2 (V c main_v1) (V c main_arg2) := by
  refine (dat0 V c).arrAt_eq_of_covers 6 _ (by decide +kernel) fun t _ y => ?_
  blk_simp
  rw [after0_6]
  obtain ⟨n, q, rfl⟩ : ∃ (n : Fin 2000) (q : Fin 81), y = ix2 n q := ⟨y 0, y 1, eq_ix2 y⟩
  refine (out6_apply _ _ _ n q).trans ?_
  simp only [highs, Scalars.high, Scalars.centre, Scalars.extent, Scalars.size]
  blk_point [iblk0, idx t]
theorem final7 : (dat0 V c).arrAt 7 cfg0.N = highs Scalars.bottom 1 3 1 3 (V c main_v1) (V c main_arg2) := by
  refine (dat0 V c).arrAt_eq_of_covers 7 _ (by decide +kernel) fun t _ y => ?_
  blk_simp
  rw [after0_7]
  obtain ⟨n, q, rfl⟩ : ∃ (n : Fin 2000) (q : Fin 81), y = ix2 n q := ⟨y 0, y 1, eq_ix2 y⟩
  refine (out7_apply _ _ _ n q).trans ?_
  simp only [highs, Scalars.high, Scalars.centre, Scalars.extent, Scalars.size]
  blk_point [iblk0, idx t]
end Arrays

end Cert.KernelIdeal.Dense

end
-- ==== Proof.Agree.lean ====
/-
  The dense stages of the two programs leave the same arrays, and an overlap ratio at an index is the ratio of two boxes.
-/
module

public import proofs.«01_k».proof.Proof.Greedy
public import proofs.«01_k».proof.Proof.RefDenseAt
public import proofs.«01_k».proof.Proof.KernelDense
public import Idealize.ShloMosaic.Lib.Pointwise

@[expose] public section

set_option maxRecDepth 16384

noncomputable section

namespace Cert.Agree

open Cert.ReferenceIdeal Cert.ReferenceIdeal.Gen Cert.ReferenceIdeal.Terms
open Cert.ReferenceIdeal.Dense (at4 ends clip pick x1_apply y1_apply x2_apply y2_apply)
open Idealize.ShloMosaic Idealize.ShloMosaic.TcCoe Idealize.ShloMosaic.Tactic
open Cert.Greedy

/-! ## The dense stages -/

/-- The four planes of shifts. -/
def planes (D : FVec Ideal S20000x324 .f32) : FVec Ideal Cert.KernelIdeal.S4x20000x81 .f32 :=
  transpose Cert.KernelIdeal.S4x20000x81 [2, 0, 1] (shapeCast S20000x81x4 D Cert.KernelIdeal.Gen.shapeCasts_S20000x324_S20000x81x4)
    Cert.KernelIdeal.Gen.transposes_S20000x81x4_S4x20000x81_2_0_1

variable (D : FVec Ideal S20000x324 .f32) (P : FVec Ideal S20000x4 .f32)

theorem planes_apply (k : Fin 4) (n : Fin 20000) (c : Fin 81) : planes D (ix3 k n c) = D (at4 n c k) := by
  pointwise [planes]
  exact congrArg D (congrArg (ix2 n) (Fin.ext (by simp; omega)))

theorem probs_eq (L : FVec Ideal S20000x81 .f32) : Cert.KernelIdeal.Dense.probs L = Cert.ReferenceIdeal.Dense.probs L := by
  funext j
  obtain ⟨n, c, rfl⟩ : ∃ (n : Fin 20000) (c : Fin 81), j = ix2 n c := ⟨j 0, j 1, eq_ix2 j⟩
  exact (Cert.ReferenceIdeal.Dense.probs_apply L n c).symm

theorem x1_eq : Cert.KernelIdeal.Dense.lows Scalars.right 0 2 0 2 (planes D) P = clip 0x44A68000#32 (pick 0 slices_S20000x81x4_S20000x81x1_0_0_0 (ends D P)) := by
  funext j
  obtain ⟨n, c, rfl⟩ : ∃ (n : Fin 20000) (c : Fin 81), j = ix2 n c := ⟨j 0, j 1, eq_ix2 j⟩
  rw [x1_apply, ← planes_apply D, ← planes_apply D]
  rfl
theorem y1_eq : Cert.KernelIdeal.Dense.lows Scalars.bottom 1 3 1 3 (planes D) P = clip 0x4447C000#32 (pick 1 slices_S20000x81x4_S20000x81x1_0_0_1 (ends D P)) := by
  funext j
  obtain ⟨n, c, rfl⟩ : ∃ (n : Fin 20000) (c : Fin 81), j = ix2 n c := ⟨j 0, j 1, eq_ix2 j⟩
  rw [y1_apply, ← planes_apply D, ← planes_apply D]
  rfl
theorem x2_eq : Cert.KernelIdeal.Dense.highs Scalars.right 0 2 0 2 (planes D) P = clip 0x44A68000#32 (pick 2 slices_S20000x81x4_S20000x81x1_0_0_2 (ends D P)) := by
  funext j
  obtain ⟨n, c, rfl⟩ : ∃ (n : Fin 20000) (c : Fin 81), j = ix2 n c := ⟨j 0, j 1, eq_ix2 j⟩
  rw [x2_apply, ← planes_apply D, ← planes_apply D]
  rfl
theorem y2_eq : Cert.KernelIdeal.Dense.highs Scalars.bottom 1 3 1 3 (planes D) P = clip 0x4447C000#32 (pick 3 slices_S20000x81x4_S20000x81x1_0_0_3 (ends D P)) := by
  funext j
  obtain ⟨n, c, rfl⟩ : ∃ (n : Fin 20000) (c : Fin 81), j = ix2 n c := ⟨j 0, j 1, eq_ix2 j⟩
  rw [y2_apply, ← planes_apply D, ← planes_apply D]
  rfl

/-! ## The overlap ratios -/

section Ratios
variable (X : FVec Ideal S80x500x4 .f32) (c : Fin 80) (j i : Fin 500)

/-- One candidate's box. -/
def boxOf : Box := ⟨X (ix3 c j 0), X (ix3 c j 1), X (ix3 c j 2), X (ix3 c j 3)⟩

variable (x : FVec Ideal S80x500 .f32) (a b : FVec Ideal S80x500x500 .f32)
theorem left_apply : left x (ix3 c j i) = x (ix2 c j) := by pointwise [left]
theorem right_apply : right x (ix3 c j i) = x (ix2 c i) := by pointwise [right]
theorem coord_0 : coord X 0 slices_S80x500x4_S80x500x1_0_0_0 (ix2 c j) = X (ix3 c j 0) := by pointwise [coord]
theorem coord_1 : coord X 1 slices_S80x500x4_S80x500x1_0_0_1 (ix2 c j) = X (ix3 c j 1) := by pointwise [coord]
theorem coord_2 : coord X 2 slices_S80x500x4_S80x500x1_0_0_2 (ix2 c j) = X (ix3 c j 2) := by pointwise [coord]
theorem coord_3 : coord X 3 slices_S80x500x4_S80x500x1_0_0_3 (ix2 c j) = X (ix3 c j 3) := by pointwise [coord]
theorem extent_apply (x y : FVec Ideal S80x500 .f32) : extent x y (ix2 c j) = y (ix2 c j) - x (ix2 c j) + 1 := by
  pointwise [extent]
theorem extent0_apply : extent0 a b (ix3 c j i) = max (b (ix3 c j i) - a (ix3 c j i) + 1) 0 := by
  pointwise [extent0]
theorem area_apply : area X (ix2 c j) = (boxOf X c j).area := by
  have e : area X (ix2 c j) = extent (coord X 0 slices_S80x500x4_S80x500x1_0_0_0) (coord X 2 slices_S80x500x4_S80x500x1_0_0_2) (ix2 c j)
    * extent (coord X 1 slices_S80x500x4_S80x500x1_0_0_1) (coord X 3 slices_S80x500x4_S80x500x1_0_0_3) (ix2 c j) := rfl
  rw [e, extent_apply, extent_apply, coord_0, coord_1, coord_2, coord_3]
  rfl
theorem max_apply : maximumf (left x) (right x) (ix3 c j i) = max (x (ix2 c j)) (x (ix2 c i)) := by
  rw [← left_apply c j i x, ← right_apply c j i x]
  rfl
theorem min_apply : minimumf (left x) (right x) (ix3 c j i) = min (x (ix2 c j)) (x (ix2 c i)) := by
  rw [← left_apply c j i x, ← right_apply c j i x]
  rfl
theorem inter_apply : inter X (ix3 c j i) = (boxOf X c j).inter (boxOf X c i) := by
  have e : inter X (ix3 c j i)
    = extent0 (maximumf (left (coord X 0 slices_S80x500x4_S80x500x1_0_0_0)) (right (coord X 0 slices_S80x500x4_S80x500x1_0_0_0)))
      (minimumf (left (coord X 2 slices_S80x500x4_S80x500x1_0_0_2)) (right (coord X 2 slices_S80x500x4_S80x500x1_0_0_2))) (ix3 c j i)
    * extent0 (maximumf (left (coord X 1 slices_S80x500x4_S80x500x1_0_0_1)) (right (coord X 1 slices_S80x500x4_S80x500x1_0_0_1)))
      (minimumf (left (coord X 3 slices_S80x500x4_S80x500x1_0_0_3)) (right (coord X 3 slices_S80x500x4_S80x500x1_0_0_3))) (ix3 c j i) := rfl
  rw [e, extent0_apply, extent0_apply, max_apply, max_apply, min_apply, min_apply]
  simp only [coord_0, coord_1, coord_2, coord_3]
  rfl
theorem iou_apply : iou X (ix3 c j i) = Box.ratio (boxOf X c j) (boxOf X c i) := by
  have e : iou X (ix3 c j i) = Ideal.div (inter X (ix3 c j i)) (left (area X) (ix3 c j i) + right (area X) (ix3 c j i) - inter X (ix3 c j i)) := rfl
  rw [e, inter_apply, left_apply, right_apply, area_apply, area_apply]
  rfl
end Ratios

end Cert.Agree

end
-- ==== Proof.Candidates.lean ====
/-
  Every candidate's box is a decoded box of an ordered proposal or the fill, so both overlap tests agree on it.
-/
module

public import proofs.«01_k».proof.Proof.Agree

@[expose] public section

set_option maxRecDepth 16384

noncomputable section

namespace Cert.Agree

open Cert.ReferenceIdeal Cert.ReferenceIdeal.Gen Cert.ReferenceIdeal.Terms
open Cert.ReferenceIdeal.Dense (at4 ends clip pick x1_apply y1_apply x2_apply y2_apply)
open Idealize.ShloMosaic Idealize.ShloMosaic.TcCoe Idealize.ShloMosaic.Tactic
open Cert.Greedy

section Gather
variable (J : IVec S80x500x1 32) (c : Fin 80) (i : Fin 500) (k : Fin 4)

/-- The numbers of the gather that reads the candidates' boxes. -/
abbrev gd : GatherDims S80x20000x4 S80x500x1 S80x500x4 := gather_S80x20000x4_S80x500x1_S80x500x4_2_1_0_0_1_2_114

/-- The position that a candidate's box is read at. -/
def place : Fin 20000 := (GatherDims.operandIdx gd (ix3 c i 0 : S80x500x4.Idx) J : S80x20000x4.Idx) 1

theorem read_at (h : 0 < (gd.startIndexMap).length) :
    GatherDims.siIdx gd (ix3 c i k : S80x500x4.Idx) ⟨0, h⟩ = GatherDims.siIdx gd (ix3 c i 0 : S80x500x4.Idx) ⟨0, h⟩ := by
  funext b
  match b with
  | ⟨0, _⟩ => rfl
  | ⟨1, _⟩ => rfl
  | ⟨2, _⟩ => rfl

theorem start_eq : GatherDims.start gd (ix3 c i k : S80x500x4.Idx) J 1 = GatherDims.start gd (ix3 c i 0 : S80x500x4.Idx) J 1 :=
  congrArg (fun p => min (J p).toInt.toNat (S80x20000x4.size 1 - gd.sliceSizes 1)) (read_at c i k (by decide))

theorem operand_eq : GatherDims.operandIdx gd (ix3 c i k : S80x500x4.Idx) J = (ix3 c (place J c i) k : S80x20000x4.Idx) := by
  funext a
  refine Fin.ext ?_
  match a with
  | ⟨0, _⟩ =>
    show GatherDims.start gd _ J 0 + GatherDims.batchCoord gd (ix3 c i k : S80x500x4.Idx) 0 + GatherDims.offCoord gd _ 0 = c.val
    rw [GatherDims.start_batching gd _ J 0 (by decide), GatherDims.offCoord_eq_zero gd _ 0 (by decide)]
    have : GatherDims.batchCoord gd (ix3 c i k : S80x500x4.Idx) 0 = c.val := rfl
    omega
  | ⟨1, _⟩ =>
    show GatherDims.start gd _ J 1 + GatherDims.batchCoord gd (ix3 c i k : S80x500x4.Idx) 1 + GatherDims.offCoord gd _ 1
      = GatherDims.start gd _ J 1 + GatherDims.batchCoord gd (ix3 c i 0 : S80x500x4.Idx) 1 + GatherDims.offCoord gd _ 1
    rw [GatherDims.batchCoord_eq_zero gd _ 1 (by decide), GatherDims.offCoord_eq_zero gd _ 1 (by decide),
      GatherDims.batchCoord_eq_zero gd _ 1 (by decide), GatherDims.offCoord_eq_zero gd _ 1 (by decide), start_eq J c i k]
  | ⟨2, _⟩ =>
    show GatherDims.start gd _ J 2 + GatherDims.batchCoord gd (ix3 c i k : S80x500x4.Idx) 2 + GatherDims.offCoord gd _ 2 = k.val
    rw [GatherDims.batchCoord_eq_zero gd _ 2 (by decide)]
    have h1 : GatherDims.start gd (ix3 c i k : S80x500x4.Idx) J 2 = 0 := rfl
    have h2 : GatherDims.offCoord gd (ix3 c i k : S80x500x4.Idx) 2 = k.val := rfl
    omega

theorem spread_apply (M : IVec S80x500 1) : broadcastInDim S80x500x4 ![0, 1] bcast_S80x500_S80x500x4_0_1 M (ix3 c i k) = M (ix2 c i) := by
  pointwise

theorem cand_apply (X : FVec Ideal S80x20000x4 .f32) : cand X J (ix3 c i k)
    = Scalar.select (inside J (ix2 c i)) (X (ix3 c (place J c i) k)) (Ideal.ofBits FTy.f32 0x7FC00000#32) := by
  have e : cand X J (ix3 c i k) = Scalar.select (broadcastInDim S80x500x4 ![0, 1] bcast_S80x500_S80x500x4_0_1 (inside J) (ix3 c i k))
    (X (GatherDims.operandIdx gd (ix3 c i k : S80x500x4.Idx) J)) (Ideal.ofBits FTy.f32 0x7FC00000#32) := rfl
  rw [e, spread_apply, operand_eq]
end Gather

section Stack
variable (x y z w : FVec Ideal S20000x81 .f32) (c : Fin 80) (n : Fin 20000)
/-- The class behind the background that a row belongs to. -/
abbrev cls (c : Fin 80) : Fin 81 := ⟨1 + c.val, by omega⟩
theorem boxes_0 : boxes (stack x y z w) (ix3 c n 0) = x (ix2 n (cls c)) := by pointwise [boxes, stack]
theorem boxes_1 : boxes (stack x y z w) (ix3 c n 1) = y (ix2 n (cls c)) := by pointwise [boxes, stack]
theorem boxes_2 : boxes (stack x y z w) (ix3 c n 2) = z (ix2 n (cls c)) := by pointwise [boxes, stack]
theorem boxes_3 : boxes (stack x y z w) (ix3 c n 3) = w (ix2 n (cls c)) := by pointwise [boxes, stack]
end Stack

/-- The decoded and clipped boxes, as the reference stacks them. -/
def decoded (D : FVec Ideal S20000x324 .f32) (P : FVec Ideal S20000x4 .f32) : FVec Ideal S20000x81x4 .f32 :=
  stack (clip 0x44A68000#32 (pick 0 slices_S20000x81x4_S20000x81x1_0_0_0 (ends D P))) (clip 0x4447C000#32 (pick 1 slices_S20000x81x4_S20000x81x1_0_0_1 (ends D P)))
    (clip 0x44A68000#32 (pick 2 slices_S20000x81x4_S20000x81x1_0_0_2 (ends D P))) (clip 0x4447C000#32 (pick 3 slices_S20000x81x4_S20000x81x1_0_0_3 (ends D P)))

/-- No proposal has a negative width or height. -/
def Ordered (P : FVec Ideal S20000x4 .f32) : Prop :=
  ∀ n : Fin 20000, 0 ≤ Scalars.size (P (ix2 n 0)) (P (ix2 n 2)) ∧ 0 ≤ Scalars.size (P (ix2 n 1)) (P (ix2 n 3))

theorem cand_good (D : FVec Ideal S20000x324 .f32) (P : FVec Ideal S20000x4 .f32) (hP : Ordered P) (J : IVec S80x500x1 32) (c : Fin 80) (i : Fin 500) :
    (boxOf (cand (boxes (decoded D P)) J) c i).Good := by
  unfold boxOf decoded
  rw [cand_apply, cand_apply, cand_apply, cand_apply, boxes_0, boxes_1, boxes_2, boxes_3, x1_apply, y1_apply, x2_apply, y2_apply]
  rcases BitVec.eq_zero_or_eq_one (inside J (ix2 c i)) with h | h
  · rw [h]
    right
    show Box.mk (Ideal.ofBits FTy.f32 0x7FC00000#32) (Ideal.ofBits FTy.f32 0x7FC00000#32) (Ideal.ofBits FTy.f32 0x7FC00000#32) (Ideal.ofBits FTy.f32 0x7FC00000#32) = _
    rw [fill_eq]
  · rw [h]
    exact decoded_good _ _ _ _ _ _ _ _ (hP _).1 (hP _).2

/-- The two overlap tests agree on every two candidates. -/
theorem tests_agree (D : FVec Ideal S20000x324 .f32) (P : FVec Ideal S20000x4 .f32) (hP : Ordered P) (J : IVec S80x500x1 32) (c : Fin 80) (j i : Fin 500) :
    Scalars.half < iou (cand (boxes (decoded D P)) J) (ix3 c j i)
      ↔ (boxOf (cand (boxes (decoded D P)) J) c i).over (boxOf (cand (boxes (decoded D P)) J) c j) := by
  rw [iou_apply]
  exact over_iff _ _ (cand_good D P hP J c i) (cand_good D P hP J c j)

/-- The scores the candidates are chosen by. -/
def chosen (L : FVec Ideal S20000x81 .f32) : FVec Ideal S80x20000 .f32 := masked (scores (Cert.ReferenceIdeal.Dense.probs L))
/-- The candidates' scores, of the logits. -/
def best (L : FVec Ideal S20000x81 .f32) : FVec Ideal S80x500 .f32 := vals (chosen L)
/-- The candidates' boxes, of the three arguments. -/
def found (L : FVec Ideal S20000x81 .f32) (D : FVec Ideal S20000x324 .f32) (P : FVec Ideal S20000x4 .f32) : FVec Ideal S80x500x4 .f32 :=
  cand (boxes (decoded D P)) (wrapped (inds (chosen L)))

end Cert.Agree

end
-- ==== Proof.KernelHost.lean ====
/-
  The kernel program's operations between and behind its two calls, read off as the shared functions of what the calls
  leave: the candidates before the suppression, its five operands, and the three results from its mask.
-/
module

public import proofs.«01_k».proof.Proof.Terms
public import proofs.«01_k».proof.Proof.Gen.KernelIdeal.Frame
public import Idealize.ShloMosaic.Lib.StableHlo.RunRead
public import Idealize.ShloMosaic.Lib.StableHlo.ReadAt
public import Idealize.ShloMosaic.Lib.Pointwise

@[expose] public section

set_option maxRecDepth 16384

noncomputable section

namespace Cert.KernelIdeal.HostSteps

open Cert.KernelIdeal Cert.KernelIdeal.Gen
open Idealize.ShloMosaic Idealize.ShloMosaic.TcCoe Idealize.ShloMosaic.Tactic Idealize.ShloMosaic.StableHlo
open Cert.ReferenceIdeal (Terms.scores)
open Cert.ReferenceIdeal.Terms

variable (V : Valuation τ sig (Elt Ideal))

theorem s0_v1 : after hostOps0 V (Proc.devRef .tc main_v1)
    = transpose S4x20000x81 [2, 0, 1] (shapeCast S20000x81x4 (V (Proc.devRef .tc main_arg1)) shapeCasts_S20000x324_S20000x81x4) transposes_S20000x81x4_S4x20000x81_2_0_1 := by
  after_reads_simp
  rfl
theorem s1_v4 : after hostOps1 V (Proc.devRef .tc main_v4) = scores (V (Proc.devRef .tc main_v2_0)) := by
  after_reads_simp
  rfl
theorem s1_v11 : after hostOps1 V (Proc.devRef .tc main_v11) = boxes (stack (V (Proc.devRef .tc main_v2_1)) (V (Proc.devRef .tc main_v2_2))
    (V (Proc.devRef .tc main_v2_3)) (V (Proc.devRef .tc main_v2_4))) := by
  after_reads_simp
  rfl
theorem s1_v14 : after hostOps1_1 (after hostOps1 V) (Proc.devRef .tc main_v14) = masked (scores (V (Proc.devRef .tc main_v2_0))) := by
  after_reads_simp
  rfl
theorem s2_values : after hostOps1_2 V (Proc.devRef .tc main_values) = vals (V (Proc.devRef .tc main_v14)) := by
  after_reads_simp
  rfl
theorem s2_v17 : after hostOps1_2 V (Proc.devRef .tc main_v17) = uitofp (F := Ideal) .f32 (valid (vals (V (Proc.devRef .tc main_v14)))) := by
  after_reads_simp
  rfl
theorem s2_v18 : after hostOps1_2 V (Proc.devRef .tc main_v18)
    = broadcastInDim S80x500x1 ![0, 1] bcast_S80x500_S80x500x1_0_1 (inds (V (Proc.devRef .tc main_v14))) := by
  after_reads_simp
  rfl
theorem s3_v19 {I : IVec S80x500 32} (h : V (Proc.devRef .tc main_v18) = broadcastInDim S80x500x1 ![0, 1] bcast_S80x500_S80x500x1_0_1 I) :
    after hostOps1_3 V (Proc.devRef .tc main_v19) = cand (V (Proc.devRef .tc main_v11)) (wrapped I) := by
  after_reads_simp
  simp -implicitDefEqProofs only [TRef.toBuf, TRef.ofBuf, cast_cast, cast_eq, h]
  rfl

/-- One coordinate of the candidates' boxes, one column a class: an operand of the suppression. -/
def plane (X : FVec Ideal S80x500x4 .f32) (k : ℕ) (h : S4x500x80.Slices ![k, 0, 0] S1x500x80) : FVec Ideal S500x80 .f32 :=
  shapeCast S500x80 (extractStridedSlice S1x500x80 ![k, 0, 0] (transpose S4x500x80 [2, 1, 0] X transposes_S80x500x4_S4x500x80_2_1_0) h)
    shapeCasts_S1x500x80_S500x80

theorem s4_v23 : after hostOps1_4 V (Proc.devRef .tc main_v23) = plane (V (Proc.devRef .tc main_v19)) 0 slices_S4x500x80_S1x500x80_0_0_0 := by
  after_reads_simp
  rfl
theorem s4_v25 : after hostOps1_4 V (Proc.devRef .tc main_v25) = plane (V (Proc.devRef .tc main_v19)) 1 slices_S4x500x80_S1x500x80_1_0_0 := by
  after_reads_simp
  rfl
theorem s4_v27 : after hostOps1_4 V (Proc.devRef .tc main_v27) = plane (V (Proc.devRef .tc main_v19)) 2 slices_S4x500x80_S1x500x80_2_0_0 := by
  after_reads_simp
  rfl
theorem s4_v29 : after hostOps1_4 V (Proc.devRef .tc main_v29) = plane (V (Proc.devRef .tc main_v19)) 3 slices_S4x500x80_S1x500x80_3_0_0 := by
  after_reads_simp
  rfl
theorem s4_v21 : after hostOps1_4 V (Proc.devRef .tc main_v21) = transpose S500x80 [1, 0] (V (Proc.devRef .tc main_v17)) transposes_S80x500_S500x80_1_0 := by
  after_reads_simp

section Planes
variable (X : FVec Ideal S80x500x4 .f32) (i : Fin 500) (q : Fin 80)
theorem plane_0 : plane X 0 slices_S4x500x80_S1x500x80_0_0_0 (ix2 i q) = X (ix3 q i 0) := by pointwise [plane]
theorem plane_1 : plane X 1 slices_S4x500x80_S1x500x80_1_0_0 (ix2 i q) = X (ix3 q i 1) := by pointwise [plane]
theorem plane_2 : plane X 2 slices_S4x500x80_S1x500x80_2_0_0 (ix2 i q) = X (ix3 q i 2) := by pointwise [plane]
theorem plane_3 : plane X 3 slices_S4x500x80_S1x500x80_3_0_0 (ix2 i q) = X (ix3 q i 3) := by pointwise [plane]
theorem flags_apply (B : IVec S80x500 1) : transpose S500x80 [1, 0] (uitofp (F := Ideal) .f32 B) transposes_S80x500_S500x80_1_0 (ix2 i q)
    = ((B (ix2 q i)).toNat : EReal) := by
  pointwise
  rfl
end Planes

/-- The mask that the suppression's result gives: which entries of its transpose exceed a half. -/
def maskOf (X : FVec Ideal S500x80 .f32) : IVec S80x500 1 :=
  cmpf .ogt (transpose S80x500 [1, 0] X transposes_S500x80_S80x500_1_0) (broadcastInDim S80x500 ![] bcast_S_S80x500 (constant (F := Ideal) S_ .f32 0x3F000000#32))

theorem maskOf_apply (X : FVec Ideal S500x80 .f32) (q : Fin 80) (i : Fin 500) :
    maskOf X (ix2 q i) = Ideal.cmp .ogt (X (ix2 i q)) (Ideal.ofBits FTy.f32 0x3F000000#32) := by
  pointwise [maskOf]

theorem s6_v34 : after hostOps2_1 (after hostOps2 V) (Proc.devRef .tc main_v34)
    = select (maskOf (V (Proc.devRef .tc main_v30))) (V (Proc.devRef .tc main_values)) (broadcastInDim S80x500 ![] bcast_S_S80x500 (constant (F := Ideal) S_ .f32 0xFF800000#32)) := by
  after_reads_simp
  rfl
theorem s7_scores {K : IVec S80x500 1} {v : FVec Ideal S80x500 .f32}
    (h : V (Proc.devRef .tc main_v34) = select K v (broadcastInDim S80x500 ![] bcast_S_S80x500 (constant (F := Ideal) S_ .f32 0xFF800000#32))) :
    after hostOps2_2 V (Proc.devRef .tc main_values_4) = outScores K v := by
  after_reads_simp
  simp -implicitDefEqProofs only [TRef.toBuf, TRef.ofBuf, cast_cast, cast_eq, h]
  rfl
theorem s7_boxes {K : IVec S80x500 1} {v : FVec Ideal S80x500 .f32}
    (h : V (Proc.devRef .tc main_v34) = select K v (broadcastInDim S80x500 ![] bcast_S_S80x500 (constant (F := Ideal) S_ .f32 0xFF800000#32))) :
    after hostOps2_2 V (Proc.devRef .tc main_v49) = outBoxes (V (Proc.devRef .tc main_v19)) K v := by
  after_reads_simp
  simp -implicitDefEqProofs only [TRef.toBuf, TRef.ofBuf, cast_cast, cast_eq, h]
  rfl
theorem s7_labels {K : IVec S80x500 1} {v : FVec Ideal S80x500 .f32}
    (h : V (Proc.devRef .tc main_v34) = select K v (broadcastInDim S80x500 ![] bcast_S_S80x500 (constant (F := Ideal) S_ .f32 0xFF800000#32))) :
    after hostOps2_2 V (Proc.devRef .tc main_v56) = outLabels K v := by
  after_reads_simp
  simp -implicitDefEqProofs only [TRef.toBuf, TRef.ofBuf, cast_cast, cast_eq, h]
  rfl

end Cert.KernelIdeal.HostSteps

end
-- ==== Proof.KernelNms.lean ====
/-
  The kernel's suppression loop: after each trip its result array holds one for the candidates kept so far and zero
  everywhere else.
-/
module

public import proofs.«01_k».proof.Proof.Greedy
public import proofs.«01_k».proof.Proof.Gen.KernelIdeal.Frame
public import Idealize.ShloMosaic.Lib.Pipeline.ValueKit
public import Idealize.ShloMosaic.Lib.Pointwise
public import Idealize.ShloMosaic.Lib.WritesUnit

@[expose] public section

set_option maxRecDepth 16384

noncomputable section

namespace Cert.KernelIdeal.Nms

open Cert.KernelIdeal Cert.KernelIdeal.Gen
open Idealize.ShloMosaic Idealize.ShloMosaic.TcCoe Idealize.ShloMosaic.Tactic
open Cert.Greedy

/-! ## One trip's payloads -/

theorem row_apply (M : IVec S500x80 1) (K : FVec Ideal S500x80 .f32) (v : Vec Ideal S1x80 .f32) (c : Fin 80) :
    k1_pay7 (F := Ideal) M K v (ix2 0 c)
      = v (ix2 0 c) * (1 - Finset.fold max Scalars.bot (fun x => Scalar.select (M (ix2 x c)) (K (ix2 x c)) 0) Finset.univ) := by
  pointwise [k1_pay7]
  rfl

/-- The box of candidate `j` of class `c`. -/
def boxAt (x0 x1 x2 x3 : FVec Ideal S500x80 .f32) (c : Fin 80) (j : Fin 500) : Box :=
  ⟨x0 (ix2 j c), x1 (ix2 j c), x2 (ix2 j c), x3 (ix2 j c)⟩

theorem hit_apply (v0 v2 v4 v6 : Vec Ideal S500x80 .f32) (a b d e : Vec Ideal S1x80 .f32) (j : Fin 500) (c : Fin 80) :
    k1_pay8 (F := Ideal) (k1_pay1 v0) (k1_pay2 v2) (k1_pay3 v4) (k1_pay4 v6) (k1_pay5 v0 v2 v4 v6) a b d e (ix2 j c)
      = Ideal.cmp .ogt (Box.inter ⟨a (ix2 0 c), b (ix2 0 c), d (ix2 0 c), e (ix2 0 c)⟩ (boxAt v0 v2 v4 v6 c j))
          (Scalars.half * ((boxAt v0 v2 v4 v6 c j).area + Box.area ⟨a (ix2 0 c), b (ix2 0 c), d (ix2 0 c), e (ix2 0 c)⟩
            - Box.inter ⟨a (ix2 0 c), b (ix2 0 c), d (ix2 0 c), e (ix2 0 c)⟩ (boxAt v0 v2 v4 v6 c j))) := by
  pointwise [k1_pay8, k1_pay5, k1_pay1, k1_pay2, k1_pay3, k1_pay4]
  rfl

theorem same_apply (K : Vec Ideal S500x80 .f32) : k1_pay9 (F := Ideal) K = K := by
  funext j
  rw [eq_ix2 j]
  pointwise [k1_pay9]

theorem zero_apply (j : S500x80.Idx) : k1_pay6 (F := Ideal) j = (0 : EReal) := by
  rw [eq_ix2 j]
  pointwise [k1_pay6]

theorem offs (k : Fin k1_t1_loop.trips) : k1_off1 k = ![k.val, 0] := by
  revert k
  decide +kernel

theorem trips_eq : k1_t1_loop.trips = 500 := by decide +kernel

/-- Which row a trip works on. -/
def row (k : Fin k1_t1_loop.trips) : Fin 500 := ⟨k.val, trips_eq ▸ k.isLt⟩

/-- The stored row of a trip, over the operands and what it finds of the result. -/
theorem stored_apply (x0 x1 x2 x3 x4 K : FVec Ideal S500x80 .f32) (a b d e v : Vec Ideal S1x80 .f32) (i : Fin 500) (c : Fin 80)
    (valid : Fin 500 → Prop) (p : Fin 500 → Prop)
    (ha : a (ix2 0 c) = x0 (ix2 i c)) (hb : b (ix2 0 c) = x1 (ix2 i c)) (hd : d (ix2 0 c) = x2 (ix2 i c))
    (he : e (ix2 0 c) = x3 (ix2 i c)) (hv : v (ix2 0 c) = ind (valid i)) (hK : ∀ j, K (ix2 j c) = ind (p j)) :
    k1_pay7 (F := Ideal) (k1_pay8 (k1_pay1 x0) (k1_pay2 x1) (k1_pay3 x2) (k1_pay4 x3) (k1_pay5 x0 x1 x2 x3) a b d e) (k1_pay9 K) v (ix2 0 c)
      = ind (valid i ∧ ¬ ∃ j, (boxAt x0 x1 x2 x3 c i).over (boxAt x0 x1 x2 x3 c j) ∧ p j) := by
  rw [row_apply, hv, fold_ind _ (fun j => (boxAt x0 x1 x2 x3 c i).over (boxAt x0 x1 x2 x3 c j) ∧ p j), ind_mul]
  intro j
  rw [hit_apply, ha, hb, hd, he, same_apply, hK]
  by_cases ho : (boxAt x0 x1 x2 x3 c i).over (boxAt x0 x1 x2 x3 c j)
  · have : Ideal.cmp .ogt (Box.inter ⟨x0 (ix2 i c), x1 (ix2 i c), x2 (ix2 i c), x3 (ix2 i c)⟩ (boxAt x0 x1 x2 x3 c j))
          (Scalars.half * ((boxAt x0 x1 x2 x3 c j).area + Box.area ⟨x0 (ix2 i c), x1 (ix2 i c), x2 (ix2 i c), x3 (ix2 i c)⟩
            - Box.inter ⟨x0 (ix2 i c), x1 (ix2 i c), x2 (ix2 i c), x3 (ix2 i c)⟩ (boxAt x0 x1 x2 x3 c j))) = 1#1 :=
      congrArg BitVec.ofBool (decide_eq_true (show _ < _ from ho))
    rw [this]
    simp only [ho, true_and]
    rfl
  · have : Ideal.cmp .ogt (Box.inter ⟨x0 (ix2 i c), x1 (ix2 i c), x2 (ix2 i c), x3 (ix2 i c)⟩ (boxAt x0 x1 x2 x3 c j))
          (Scalars.half * ((boxAt x0 x1 x2 x3 c j).area + Box.area ⟨x0 (ix2 i c), x1 (ix2 i c), x2 (ix2 i c), x3 (ix2 i c)⟩
            - Box.inter ⟨x0 (ix2 i c), x1 (ix2 i c), x2 (ix2 i c), x3 (ix2 i c)⟩ (boxAt x0 x1 x2 x3 c j))) = 0#1 :=
      congrArg BitVec.ofBool (decide_eq_false (show ¬ _ < _ from ho))
    rw [this]
    simp only [ho, false_and]
    unfold ind
    rw [if_neg not_false]
    rfl

/-! ## The loop -/

section Loop
variable (𝒱 : Variants) (c : Dev nD) (bd : Option 𝒱.V)
  (arg0 : Memref sig .tc .vmem S500x80 .f32) (harg0 : arg0.IsWhole) (arg1 : Memref sig .tc .vmem S500x80 .f32) (harg1 : arg1.IsWhole)
  (arg2 : Memref sig .tc .vmem S500x80 .f32) (harg2 : arg2.IsWhole) (arg3 : Memref sig .tc .vmem S500x80 .f32) (harg3 : arg3.IsWhole)
  (arg4 : Memref sig .tc .vmem S500x80 .f32) (harg4 : arg4.IsWhole) (arg5 : Memref sig .tc .vmem S500x80 .f32) (harg5 : arg5.IsWhole)
  (x0 x1 x2 x3 x4 : FVec Ideal S500x80 .f32) (G : BufTy.Contents (Elt Ideal) arg5.view.ty)

/-- The stored pieces before trip `k`. -/
abbrev pieces (k : ℕ) : List (View.Piece (Elt Ideal) S500x80 .f32) :=
  pb_k1_t1 (F := Ideal) 𝒱 c bd arg0 harg0 arg1 harg1 arg2 harg2 arg3 harg3 arg4 harg4 arg5 harg5 x0 x1 x2 x3
    (harg0.unread x0) (harg1.unread x1) (harg2.unread x2) (harg3.unread x3) (harg4.unread x4) G k

/-- What the result array holds before trip `k`. -/
abbrev now (k : ℕ) : FVec Ideal S500x80 .f32 :=
  arg5.view.read (Elt Ideal) (arg5.view.writes (Elt Ideal) G
    (pieces 𝒱 c bd arg0 harg0 arg1 harg1 arg2 harg2 arg3 harg3 arg4 harg4 arg5 harg5 x0 x1 x2 x3 x4 G k))

/-- A row loaded from an operand. -/
theorem load_row (arg : Memref sig .tc .vmem S500x80 .f32) (h : arg.IsWhole) (x : FVec Ideal S500x80 .f32) (k : Fin k1_t1_loop.trips)
    (off : Fin 2 → ℕ) (inb : ∀ a, off a + S1x80.size a ≤ S500x80.size a) (hoff : off = ![k.val, 0]) (q : Fin 80) :
    View.readAt (Elt Ideal) arg.view (Rect.unit (s := S500x80) off S1x80.size inb).toLoadRect (h.unread x) (ix2 0 q) = x (ix2 (row k) q) := by
  subst hoff
  rw [View.readAt_eq_ld, h.read_unread]
  refine View.ld_unit_apply_of _ _ _ _ _ _ fun a => ?_
  fin_cases a <;> simp [row]

theorem next (valid : Fin 80 → Fin 500 → Prop) (hx4 : ∀ i q, x4 (ix2 i q) = ind (valid q i)) (k : Fin k1_t1_loop.trips)
    (P : Fin 80 → Fin 500 → Prop)
    (hP : ∀ j q, now 𝒱 c bd arg0 harg0 arg1 harg1 arg2 harg2 arg3 harg3 arg4 harg4 arg5 harg5 x0 x1 x2 x3 x4 G k.val (ix2 j q) = ind (P q j))
    (j : Fin 500) (q : Fin 80) :
    now 𝒱 c bd arg0 harg0 arg1 harg1 arg2 harg2 arg3 harg3 arg4 harg4 arg5 harg5 x0 x1 x2 x3 x4 G (k.val + 1) (ix2 j q)
      = ind (if j.val = k.val then valid q j ∧ ¬ ∃ l, (boxAt x0 x1 x2 x3 q j).over (boxAt x0 x1 x2 x3 q l) ∧ P q l else P q j) := by
  unfold now pieces
  rw [pb_k1_t1_succ]
  unfold tripL_k1_t1 trip_k1_t1
  sl_unfold_words
  dsimp only
  rw [List.singleton_append]
  by_cases hj : j.val = k.val
  · rw [if_pos hj]
    refine (View.read_writes_cons_rows_of_mem (size := ![1, 80]) (o := k.val) arg5.view G _ _ _ (ix2 j q) (ix2 0 q : S1x80.Idx) (offs k) ?_ rfl).trans ?_
    · show j.val = k.val + 0
      omega
    have hr : row k = j := Fin.ext hj.symm
    refine stored_apply x0 x1 x2 x3 x4 _ _ _ _ _ _ j q (valid q) (P q) ?_ ?_ ?_ ?_ ?_ ?_
    · rw [← hr]
      exact load_row arg0 harg0 x0 k _ _ (offs k) q
    · rw [← hr]
      exact load_row arg1 harg1 x1 k _ _ (offs k) q
    · rw [← hr]
      exact load_row arg2 harg2 x2 k _ _ (offs k) q
    · rw [← hr]
      exact load_row arg3 harg3 x3 k _ _ (offs k) q
    · rw [← hx4, ← hr]
      exact load_row arg4 harg4 x4 k _ _ (offs k) q
    · intro l
      rw [← hP, View.readAt_eq_ld, View.ld_unit_lit _ _ (by decide)]
  · rw [if_neg hj]
    refine (View.read_writes_cons_rows_of_not_mem (o := k.val) (W := 1) arg5.view G _ _ _ (ix2 j q) (offs k) rfl ?_).trans (hP j q)
    show j.val < k.val ∨ k.val + 1 ≤ j.val
    omega

/-- Before every trip the result array holds the indicator of the candidates kept so far. -/
theorem now_eq (valid : Fin 80 → Fin 500 → Prop) (hx4 : ∀ i q, x4 (ix2 i q) = ind (valid q i))
    (hG : ∀ j q, arg5.view.read (Elt Ideal) G (ix2 j q) = (0 : EReal)) (k : ℕ) (hk : k ≤ 500) (j : Fin 500) (q : Fin 80) :
    now 𝒱 c bd arg0 harg0 arg1 harg1 arg2 harg2 arg3 harg3 arg4 harg4 arg5 harg5 x0 x1 x2 x3 x4 G k (ix2 j q)
      = ind (kept (valid q) (fun l i => (boxAt x0 x1 x2 x3 q i).over (boxAt x0 x1 x2 x3 q l)) k j) := by
  induction k generalizing j q with
  | zero =>
    refine (hG j q).trans ?_
    unfold ind
    exact (if_neg not_false).symm
  | succ k ih =>
    exact next 𝒱 c bd arg0 harg0 arg1 harg1 arg2 harg2 arg3 harg3 arg4 harg4 arg5 harg5 x0 x1 x2 x3 x4 G valid hx4
      ⟨k, trips_eq ▸ hk⟩ _ (fun j q => ih (by omega) j q) j q
end Loop

end Cert.KernelIdeal.Nms

namespace Cert.KernelIdeal.Nms

open Cert.KernelIdeal Cert.KernelIdeal.Gen
open Idealize.ShloMosaic Idealize.ShloMosaic.TcCoe Idealize.ShloMosaic.Tactic
open Cert.Greedy

section Final
variable (V : (c : Dev nD) → (b : Ref sig .tc) → Buf (Elt Ideal) ((c : Thread nD τ).loc b)) (c : Dev nD)

theorem idx : ∀ t : Fin cfg1.N, win1_0.index t = ![0, 0] ∧ win1_1.index t = ![0, 0] ∧ win1_2.index t = ![0, 0]
    ∧ win1_3.index t = ![0, 0] ∧ win1_4.index t = ![0, 0] ∧ win1_5.index t = ![0, 0] :=
  (by decide +kernel : ∀ t : Fin grid1.N, _)

theorem blk0 (t : Fin cfg1.N) : (iblk1 V c 0 t : FVec Ideal S500x80 .f32) = V c main_v23 := by
  funext y
  obtain ⟨n, q, rfl⟩ : ∃ (n : Fin 500) (q : Fin 80), y = ix2 n q := ⟨y 0, y 1, eq_ix2 y⟩
  blk_point [iblk1, idx t]
theorem blk1 (t : Fin cfg1.N) : (iblk1 V c 1 t : FVec Ideal S500x80 .f32) = V c main_v25 := by
  funext y
  obtain ⟨n, q, rfl⟩ : ∃ (n : Fin 500) (q : Fin 80), y = ix2 n q := ⟨y 0, y 1, eq_ix2 y⟩
  blk_point [iblk1, idx t]
theorem blk2 (t : Fin cfg1.N) : (iblk1 V c 2 t : FVec Ideal S500x80 .f32) = V c main_v27 := by
  funext y
  obtain ⟨n, q, rfl⟩ : ∃ (n : Fin 500) (q : Fin 80), y = ix2 n q := ⟨y 0, y 1, eq_ix2 y⟩
  blk_point [iblk1, idx t]
theorem blk3 (t : Fin cfg1.N) : (iblk1 V c 3 t : FVec Ideal S500x80 .f32) = V c main_v29 := by
  funext y
  obtain ⟨n, q, rfl⟩ : ∃ (n : Fin 500) (q : Fin 80), y = ix2 n q := ⟨y 0, y 1, eq_ix2 y⟩
  blk_point [iblk1, idx t]
theorem blk4 (t : Fin cfg1.N) : (iblk1 V c 4 t : FVec Ideal S500x80 .f32) = V c main_v21 := by
  funext y
  obtain ⟨n, q, rfl⟩ : ∃ (n : Fin 500) (q : Fin 80), y = ix2 n q := ⟨y 0, y 1, eq_ix2 y⟩
  blk_point [iblk1, idx t]

/-- The loop's result over the five operands. -/
def survivors (valid : Fin 80 → Fin 500 → Prop) (box : Fin 80 → Fin 500 → Box) : FVec Ideal S500x80 .f32 :=
  fun j => ind (kept (valid (j 1)) (fun l i => (box (j 1) i).over (box (j 1) l)) 500 (j 0))

theorem out_apply (x0 x1 x2 x3 x4 : FVec Ideal S500x80 .f32) (valid : Fin 80 → Fin 500 → Prop)
    (hx4 : ∀ i q, x4 (ix2 i q) = ind (valid q i))
    (arg0 : Memref sig .tc .vmem S500x80 .f32) (harg0 : arg0.IsWhole) (arg1 : Memref sig .tc .vmem S500x80 .f32) (harg1 : arg1.IsWhole)
    (arg2 : Memref sig .tc .vmem S500x80 .f32) (harg2 : arg2.IsWhole) (arg3 : Memref sig .tc .vmem S500x80 .f32) (harg3 : arg3.IsWhole)
    (arg4 : Memref sig .tc .vmem S500x80 .f32) (harg4 : arg4.IsWhole) (arg5 : Memref sig .tc .vmem S500x80 .f32) (harg5 : arg5.IsWhole)
    (j : Fin 500) (q : Fin 80) :
    out1_A_5 (F := Ideal) c arg0 harg0 arg1 harg1 arg2 harg2 arg3 harg3 arg4 harg4 arg5 harg5 x0 x1 x2 x3 x4 (ix2 j q)
      = survivors valid (boxAt x0 x1 x2 x3) (ix2 j q) := by
  have hz : ∀ (x : FVec Ideal S500x80 .f32) (inb : ∀ a, (![0, 0] : Fin 2 → ℕ) a + S500x80.size a ≤ S500x80.size a),
      View.ld (Val := Elt Ideal) (e' := .f32) x (Rect.unit (s := S500x80) ![0, 0] S500x80.size inb) = x := fun x inb =>
    View.ld_unit_lit (Val := Elt Ideal) (e := .f32) inb x (by decide)
  unfold out1_A_5
  rw [View.read_writes_of_cover VO1_5 VO1_5.junk arg5.view arg5.view.junk _ (cover1_A_5 (F := Ideal) c arg0 harg0 arg1 harg1 arg2 harg2 arg3 harg3 arg4 harg4 arg5 harg5 x0 x1 x2 x3 x4)]
  frame_open
  rw [View.writes_append]
  simp only [View.readAt_eq_ld, harg0.read_unread, harg1.read_unread, harg2.read_unread, harg3.read_unread, hz]
  refine (congrArg (fun n => now Variants.none c none arg0 harg0 arg1 harg1 arg2 harg2 arg3 harg3 arg4 harg4 arg5 harg5 x0 x1 x2 x3 x4 _ n (ix2 j q)) (show _ = 500 from trips_eq)).trans ?_
  refine (now_eq Variants.none c none arg0 harg0 arg1 harg1 arg2 harg2 arg3 harg3 arg4 harg4 arg5 harg5 x0 x1 x2 x3 x4 _ valid hx4 ?_ 500 le_rfl j q).trans rfl
  intro l p
  refine (View.read_writes_cons_unit_of_mem arg5.view arg5.view.junk _ _ [] (ix2 l p) (ix2 l p : S500x80.Idx) rfl ?_).trans (zero_apply _)
  intro a
  fin_cases a <;> simp

theorem final5 (valid : Fin 80 → Fin 500 → Prop) (h : ∀ i q, (V c main_v21 : FVec Ideal S500x80 .f32) (ix2 i q) = ind (valid q i)) :
    (dat1 V c).arrAt 5 cfg1.N
      = survivors valid (boxAt (V c main_v23) (V c main_v25) (V c main_v27) (V c main_v29)) := by
  refine (dat1 V c).arrAt_eq_of_covers 5 _ (by decide +kernel) fun t _ y => ?_
  blk_simp
  rw [after1_5]
  obtain ⟨n, q, rfl⟩ : ∃ (n : Fin 500) (q : Fin 80), y = ix2 n q := ⟨y 0, y 1, eq_ix2 y⟩
  unfold outsAt1
  rw [blk0, blk1, blk2, blk3, blk4]
  refine (out_apply c _ _ _ _ _ valid h _ _ _ _ _ _ _ _ _ _ _ _ n q).trans ?_
  refine congrArg (survivors valid (boxAt (V c main_v23) (V c main_v25) (V c main_v27) (V c main_v29))) ?_
  blk_ext [idx t]
end Final

end Cert.KernelIdeal.Nms

end
-- ==== Proof.KernelResults.lean ====
/-
  The kernel program's three results as functions of its arguments and of its mask, and the mask at an index.
-/
module

public import proofs.«01_k».proof.Proof.Candidates
public import proofs.«01_k».proof.Proof.KernelHost
public import proofs.«01_k».proof.Proof.KernelNms

@[expose] public section

set_option maxRecDepth 16384

noncomputable section

namespace Cert.KernelIdeal.Values

open Cert.KernelIdeal Cert.KernelIdeal.Gen Cert.KernelIdeal.HostSteps
open Cert.ReferenceIdeal.Terms
open Cert.ReferenceIdeal.Dense (clip pick ends)
open Idealize.ShloMosaic Idealize.ShloMosaic.TcCoe Idealize.ShloMosaic.Tactic Idealize.ShloMosaic.StableHlo
open Cert.Agree Cert.Greedy

variable (m : (ℓ : Loc nD τ sig) → Buf (Elt Ideal) ℓ) (ρ : Dev nD → PrngReg) (c : Dev nD)

/-- The three arguments. -/
abbrev logits : FVec Ideal S20000x81 .f32 := m ((c.tc : Thread nD τ).loc main_arg0)
abbrev shifts : FVec Ideal S20000x324 .f32 := m ((c.tc : Thread nD τ).loc main_arg1)
abbrev proposals : FVec Ideal S20000x4 .f32 := m ((c.tc : Thread nD τ).loc main_arg2)

theorem w1_v1 : V1 m ρ c main_v1 = Cert.Agree.planes (shifts m c) := s0_v1 _
theorem w1_arg0 : V1 m ρ c main_arg0 = logits m c := W1_args m ρ c main_arg0 (by decide)
theorem w1_arg2 : V1 m ρ c main_arg2 = proposals m c := W1_args m ρ c main_arg2 (by decide)

theorem w2_0 : W2 m ρ c (Proc.devRef .tc main_v2_0) = Cert.ReferenceIdeal.Dense.probs (logits m c) := by
  rw [← probs_eq, ← w1_arg0 m ρ c]
  exact (W2_arr m ρ c 3).trans (Dense.final3 (V1 m ρ) c)
theorem w2_1 : W2 m ρ c (Proc.devRef .tc main_v2_1)
    = clip 0x44A68000#32 (pick 0 Cert.ReferenceIdeal.Gen.slices_S20000x81x4_S20000x81x1_0_0_0 (ends (shifts m c) (proposals m c))) := ((W2_arr m ρ c 4).trans (Dense.final4 (V1 m ρ) c)).trans
  ((congrArg₂ (Dense.lows Scalars.right 0 2 0 2) (w1_v1 m ρ c) (w1_arg2 m ρ c)).trans (x1_eq (shifts m c) (proposals m c)))
theorem w2_2 : W2 m ρ c (Proc.devRef .tc main_v2_2)
    = clip 0x4447C000#32 (pick 1 Cert.ReferenceIdeal.Gen.slices_S20000x81x4_S20000x81x1_0_0_1 (ends (shifts m c) (proposals m c))) := ((W2_arr m ρ c 5).trans (Dense.final5 (V1 m ρ) c)).trans
  ((congrArg₂ (Dense.lows Scalars.bottom 1 3 1 3) (w1_v1 m ρ c) (w1_arg2 m ρ c)).trans (y1_eq (shifts m c) (proposals m c)))
theorem w2_3 : W2 m ρ c (Proc.devRef .tc main_v2_3)
    = clip 0x44A68000#32 (pick 2 Cert.ReferenceIdeal.Gen.slices_S20000x81x4_S20000x81x1_0_0_2 (ends (shifts m c) (proposals m c))) := ((W2_arr m ρ c 6).trans (Dense.final6 (V1 m ρ) c)).trans
  ((congrArg₂ (Dense.highs Scalars.right 0 2 0 2) (w1_v1 m ρ c) (w1_arg2 m ρ c)).trans (x2_eq (shifts m c) (proposals m c)))
theorem w2_4 : W2 m ρ c (Proc.devRef .tc main_v2_4)
    = clip 0x4447C000#32 (pick 3 Cert.ReferenceIdeal.Gen.slices_S20000x81x4_S20000x81x1_0_0_3 (ends (shifts m c) (proposals m c))) := ((W2_arr m ρ c 7).trans (Dense.final7 (V1 m ρ) c)).trans
  ((congrArg₂ (Dense.highs Scalars.bottom 1 3 1 3) (w1_v1 m ρ c) (w1_arg2 m ρ c)).trans (y2_eq (shifts m c) (proposals m c)))

theorem w3_v11 : W3 m ρ c (Proc.devRef .tc main_v11) = boxes (decoded (shifts m c) (proposals m c)) := by
  have h := s1_v11 (W2 m ρ c)
  rw [w2_1 m ρ c, w2_2 m ρ c, w2_3 m ρ c, w2_4 m ρ c] at h
  exact h
theorem w4_v14 : W4 m ρ c (Proc.devRef .tc main_v14) = chosen (logits m c) := by
  have h := s1_v14 (W2 m ρ c)
  rw [w2_0 m ρ c] at h
  exact h
theorem w5_values : W5 m ρ c (Proc.devRef .tc main_values) = best (logits m c) := by
  have h := s2_values (W4 m ρ c)
  rw [w4_v14 m ρ c] at h
  exact h
theorem w5_v17 : W5 m ρ c (Proc.devRef .tc main_v17) = uitofp (F := Ideal) .f32 (valid (best (logits m c))) := by
  have h := s2_v17 (W4 m ρ c)
  rw [w4_v14 m ρ c] at h
  exact h
theorem w6_v19 : W6 m ρ c (Proc.devRef .tc main_v19) = found (logits m c) (shifts m c) (proposals m c) := by
  have h := s2_v18 (W4 m ρ c)
  rw [w4_v14 m ρ c] at h
  have h2 := s3_v19 (W5 m ρ c) h
  have h3 : W5 m ρ c (Proc.devRef .tc main_v11) = _ := (W5_of m ρ c _ (by decide)).trans <| (W4_of m ρ c _ (by decide)).trans (w3_v11 m ρ c)
  rw [h3] at h2
  exact h2

/-- A bit as a number is the indicator of its being one. -/
theorem bit_ind (b : BitVec 1) : ((b.toNat : ℝ) : EReal) = ind (b = 1#1) := by
  rcases BitVec.eq_zero_or_eq_one b with rfl | rfl <;> simp [ind]

theorem w7_v21 (i : Fin 500) (q : Fin 80) : (V7 m ρ c main_v21 : FVec Ideal S500x80 .f32) (ix2 i q) = ind (valid (best (logits m c)) (ix2 q i) = 1#1) := by
  have h := s4_v21 (W6 m ρ c)
  have h1 : W6 m ρ c (Proc.devRef .tc main_v17) = _ := (W6_of m ρ c _ (by decide)).trans (w5_v17 m ρ c)
  rw [h1] at h
  rw [show (V7 m ρ c main_v21 : FVec Ideal S500x80 .f32) = _ from h]
  exact (flags_apply i q _).trans (bit_ind _)

theorem boxAt_eq (q : Fin 80) (i : Fin 500) :
    Nms.boxAt (V7 m ρ c main_v23) (V7 m ρ c main_v25) (V7 m ρ c main_v27) (V7 m ρ c main_v29) q i = boxOf (found (logits m c) (shifts m c) (proposals m c)) q i := by
  have h0 := s4_v23 (W6 m ρ c)
  have h1 := s4_v25 (W6 m ρ c)
  have h2 := s4_v27 (W6 m ρ c)
  have h3 := s4_v29 (W6 m ρ c)
  rw [w6_v19 m ρ c] at h0 h1 h2 h3
  rw [show V7 m ρ c main_v23 = _ from h0, show V7 m ρ c main_v25 = _ from h1, show V7 m ρ c main_v27 = _ from h2, show V7 m ρ c main_v29 = _ from h3]
  unfold Nms.boxAt boxOf
  rw [plane_0, plane_1, plane_2, plane_3]

/-- The mask read off the suppression's result. -/
def mask : IVec S80x500 1 := maskOf (W8 m ρ c (Proc.devRef .tc main_v30))

/-- The mask holds the candidates that the greedy suppression keeps. -/
theorem mask_apply (q : Fin 80) (j : Fin 500) : mask m ρ c (ix2 q j) = 1#1
    ↔ kept (fun j => valid (best (logits m c)) (ix2 q j) = 1#1)
        (fun l j => (boxOf (found (logits m c) (shifts m c) (proposals m c)) q j).over (boxOf (found (logits m c) (shifts m c) (proposals m c)) q l)) 500 j := by
  have h : W8 m ρ c (Proc.devRef .tc main_v30) = Nms.survivors (fun q j => valid (best (logits m c)) (ix2 q j) = 1#1) (boxOf (found (logits m c) (shifts m c) (proposals m c))) :=
    ((W8_arr m ρ c 5).trans (Nms.final5 (V7 m ρ) c _ (w7_v21 m ρ c))).trans
      (congrArg (Nms.survivors _) (funext fun q => funext fun i => boxAt_eq m ρ c q i))
  unfold mask
  rw [h, maskOf_apply]
  refine Iff.trans ?_ (half_lt_ind _)
  exact WordCmp.ofBool_decide_eq_one_iff _

theorem w10_v34 : W10 m ρ c (Proc.devRef .tc main_v34)
    = select (mask m ρ c) (best (logits m c)) (broadcastInDim S80x500 ![] bcast_S_S80x500 (constant (F := Ideal) S_ .f32 0xFF800000#32)) := by
  have h := s6_v34 (W8 m ρ c)
  have h1 : W8 m ρ c (Proc.devRef .tc main_values) = best (logits m c) :=
    (W8_of_ne m ρ c _ (by decide)).trans <| (W7_of m ρ c _ (by decide)).trans <| (W6_of m ρ c _ (by decide)).trans (w5_values m ρ c)
  rw [h1] at h
  exact h
theorem w10_v19 : W10 m ρ c (Proc.devRef .tc main_v19) = found (logits m c) (shifts m c) (proposals m c) :=
  (W10_of m ρ c _ (by decide)).trans <| (W9_of m ρ c _ (by decide)).trans <| (W8_of_ne m ρ c _ (by decide)).trans <| (W7_of m ρ c _ (by decide)).trans (w6_v19 m ρ c)

theorem r_scores : W11 m ρ c (Proc.devRef .tc main_values_4) = outScores (mask m ρ c) (best (logits m c)) := s7_scores (W10 m ρ c) (w10_v34 m ρ c)
theorem r_boxes : W11 m ρ c (Proc.devRef .tc main_v49) = outBoxes (found (logits m c) (shifts m c) (proposals m c)) (mask m ρ c) (best (logits m c)) :=
  (s7_boxes (W10 m ρ c) (w10_v34 m ρ c)).trans (congrArg (outBoxes · (mask m ρ c) (best (logits m c))) (w10_v19 m ρ c))
theorem r_labels : W11 m ρ c (Proc.devRef .tc main_v56) = outLabels (mask m ρ c) (best (logits m c)) := s7_labels (W10 m ρ c) (w10_v34 m ρ c)

end Cert.KernelIdeal.Values

end
-- ==== Proof.RefHost.lean ====
/-
  The reference's operations from the dense stage's arrays to the loop's entry, and behind the loop, read off as the
  shared functions.
-/
module

public import proofs.«01_k».proof.Proof.Terms
public import proofs.«01_k».proof.Proof.RefRun
public import Idealize.ShloMosaic.Lib.StableHlo.RunRead
public import Idealize.ShloMosaic.Lib.StableHlo.ReadAt
public import Idealize.ShloMosaic.Lib.Pointwise

@[expose] public section

set_option maxRecDepth 16384

noncomputable section

namespace Cert.ReferenceIdeal.HostSteps

open Cert.ReferenceIdeal Cert.ReferenceIdeal.Gen
open Idealize.ShloMosaic Idealize.ShloMosaic.TcCoe Idealize.ShloMosaic.Tactic Idealize.ShloMosaic.StableHlo
open Cert.ReferenceIdeal.Terms

variable (V : Valuation τ sig (Elt Ideal))

theorem s8_v112 : after hostOps0_8 V (Proc.devRef .tc main_v112) = boxes (stack (V (Proc.devRef .tc main_v94)) (V (Proc.devRef .tc main_v97))
    (V (Proc.devRef .tc main_v100)) (V (Proc.devRef .tc main_v103))) := by
  after_reads_simp
  rfl
theorem s9_v115 : after hostOps0_9 (after hostOps0_8 V) (Proc.devRef .tc main_v115) = masked (scores (V (Proc.devRef .tc main_v10))) := by
  after_reads_simp
  rfl
theorem s10_values : after hostOps0_10 V (Proc.devRef .tc main_values) = vals (V (Proc.devRef .tc main_v115)) := by
  after_reads_simp
  rfl
theorem s10_v117 : after hostOps0_10 V (Proc.devRef .tc main_v117) = valid (vals (V (Proc.devRef .tc main_v115))) := by
  after_reads_simp
  rfl
theorem s10_v118 : after hostOps0_10 V (Proc.devRef .tc main_v118)
    = broadcastInDim S80x500x1 ![0, 1] bcast_S80x500_S80x500x1_0_1 (inds (V (Proc.devRef .tc main_v115))) := by
  after_reads_simp
  rfl
theorem s11_v119 {I : IVec S80x500 32} (h : V (Proc.devRef .tc main_v118) = broadcastInDim S80x500x1 ![0, 1] bcast_S80x500_S80x500x1_0_1 I) :
    after hostOps0_11 V (Proc.devRef .tc main_v119) = cand (V (Proc.devRef .tc main_v112)) (wrapped I) := by
  after_reads_simp
  simp -implicitDefEqProofs only [TRef.toBuf, TRef.ofBuf, cast_cast, cast_eq, h]
  rfl
theorem s12_v191_1 (i : Fin 500) : (show IVec S500 32 from after hostOps0_12 V (Proc.devRef .tc main_v191_1)) (ix1 i) = BitVec.ofNat 32 i := by
  show (after hostOps0_12 V (Proc.devRef .tc main_v191_1) : IVec S500 32) (ix1 i) = _
  after_reads_at
  rfl
theorem s12_v191_2 : after hostOps0_12 V (Proc.devRef .tc main_v191_2) = V (Proc.devRef .tc main_v117) := by
  after_reads_simp
  rfl
theorem s12_v191_4 : after hostOps0_12 V (Proc.devRef .tc main_v191_4) = constantI S_ 32 0#32 := by
  after_reads_simp
  rfl
theorem s12_v191_5 (j : S80x500.Idx) : (after hostOps0_12 V (Proc.devRef .tc main_v191_5) : IVec S80x500 1) j = 0#1 := by
  after_reads_simp
  rfl
theorem s12_v191_0 : after hostOps0_12 V (Proc.devRef .tc main_v191_0) = iou (V (Proc.devRef .tc main_v119)) := by
  after_reads_simp
  rfl

theorem s14_v192 : after hostOps0_14 (after hostOps0_13 V) (Proc.devRef .tc main_v192)
    = select (V (Proc.devRef .tc main_v191_5)) (V (Proc.devRef .tc main_values)) (broadcastInDim S80x500 ![] bcast_S_S80x500 (constant (F := Ideal) S_ .f32 0xFF800000#32)) := by
  after_reads_simp
  rfl
theorem s15_scores {K : IVec S80x500 1} {v : FVec Ideal S80x500 .f32}
    (h : V (Proc.devRef .tc main_v192) = select K v (broadcastInDim S80x500 ![] bcast_S_S80x500 (constant (F := Ideal) S_ .f32 0xFF800000#32))) :
    after hostOps0_15 V (Proc.devRef .tc main_values_39) = outScores K v := by
  after_reads_simp
  simp -implicitDefEqProofs only [TRef.toBuf, TRef.ofBuf, cast_cast, cast_eq, h]
  rfl
theorem s15_boxes {K : IVec S80x500 1} {v : FVec Ideal S80x500 .f32}
    (h : V (Proc.devRef .tc main_v192) = select K v (broadcastInDim S80x500 ![] bcast_S_S80x500 (constant (F := Ideal) S_ .f32 0xFF800000#32))) :
    after hostOps0_15 V (Proc.devRef .tc main_v207) = outBoxes (V (Proc.devRef .tc main_v119)) K v := by
  after_reads_simp
  simp -implicitDefEqProofs only [TRef.toBuf, TRef.ofBuf, cast_cast, cast_eq, h]
  rfl
theorem s15_labels {K : IVec S80x500 1} {v : FVec Ideal S80x500 .f32}
    (h : V (Proc.devRef .tc main_v192) = select K v (broadcastInDim S80x500 ![] bcast_S_S80x500 (constant (F := Ideal) S_ .f32 0xFF800000#32))) :
    after hostOps0_15 V (Proc.devRef .tc main_v214) = outLabels K v := by
  after_reads_simp
  simp -implicitDefEqProofs only [TRef.toBuf, TRef.ofBuf, cast_cast, cast_eq, h]
  rfl

end Cert.ReferenceIdeal.HostSteps

end
-- ==== Proof.RefLoop.lean ====
/-
  The reference's suppression loop: after each trip its mask holds exactly the candidates kept so far.
-/
module

public import proofs.«01_k».proof.Proof.Greedy
public import proofs.«01_k».proof.Proof.RefRun
public import Idealize.ShloMosaic.Lib.Pointwise
public import Idealize.ShloMosaic.Lib.DynamicIndex
public import Idealize.ShloMosaic.Lib.WordCmp
public import Idealize.ShloMosaic.Lib.Routing.OpsOrder

@[expose] public section

set_option maxRecDepth 16384

noncomputable section

namespace Cert.ReferenceIdeal.Loop

open Cert.ReferenceIdeal Cert.ReferenceIdeal.Gen
open Idealize.ShloMosaic Idealize.ShloMosaic.TcCoe Idealize.ShloMosaic.Tactic
open Cert.Greedy

/-! ## One trip as a function of arrays -/

/-- The loop's number, counted from the end where negative. -/
def wrap (i : IVec S_ 32) : IVec S_ 32 := select (cmpi .slt i (constantI S_ 32 0#32)) (addi (id i) (constantI S_ 32 500#32)) i

/-- The column of ratios that belongs to the candidate decided. -/
def column (I : FVec Ideal S80x500x500 .f32) (i : IVec S_ 32) : FVec Ideal S80x500 .f32 :=
  shapeCast S80x500 (Host.dynamicSlice S80x500x1 I
    (fun k => (((![constantI S_ 32 0#32, constantI S_ 32 0#32, wrap i] : Fin 3 → IVec S_ 32)) k (Shape.Idx.first h_S_)).toInt)
    sliceFits_S80x500x500_S80x500x1) shapeCasts_S80x500x1_S80x500

/-- Which candidates are kept, hit the one decided and come before it. -/
def hitting (I : FVec Ideal S80x500x500 .f32) (iota : IVec S500 32) (keep : IVec S80x500 1) (i : IVec S_ 32) : IVec S80x500 1 :=
  andi (andi keep (cmpf .ogt (column I i) (broadcastInDim S80x500 ![] bcast_S_S80x500 (constant S_ .f32 0x3F000000#32))))
    (broadcastInDim S80x500 ![0, 1] bcast_S1x500_S80x500_0_1 (broadcastInDim S1x500 ![1] bcast_S500_S1x500_1
      (cmpi .slt iota (broadcastInDim S500 ![] bcast_S_S500 (id i)))))

/-- Which classes have one. -/
def struck (M : IVec S80x500 1) : IVec S80 1 := Host.reduce IntOp.ori M (constantI S_ 1 0#1) reducesTo_S80x500_S80_d1 h_S_

/-- The decisions on one candidate. -/
def decided (valid : IVec S80x500 1) (h : IVec S80 1) (i : IVec S_ 32) : IVec S80x1 1 :=
  andi (Host.dynamicSlice S80x1 valid
      (fun k => (((![constantI S_ 32 0#32, wrap i] : Fin 2 → IVec S_ 32)) k (Shape.Idx.first h_S_)).toInt) sliceFits_S80x500_S80x1)
    (broadcastInDim S80x1 ![0] bcast_S80_S80x1_0 (noti h))

/-- The mask with one candidate's decisions written into it. -/
def written (keep : IVec S80x500 1) (d : IVec S80x1 1) (i : IVec S_ 32) : IVec S80x500 1 :=
  Host.dynamicUpdateSlice keep d
    (fun k => (((![constantI S_ 32 0#32, wrap i] : Fin 2 → IVec S_ 32)) k (Shape.Idx.first h_S_)).toInt) updateFits_S80x500_S80x1

theorem step_eq (V : Valuation τ sig (Elt Ideal)) : Cert.ReferenceIdeal.Value.step_main_v191_5 V
    = written (V (Proc.devRef .tc main_v191_5))
        (decided (V (Proc.devRef .tc main_v191_2)) (struck (hitting (V (Proc.devRef .tc main_v191_0)) (V (Proc.devRef .tc main_v191_1))
          (V (Proc.devRef .tc main_v191_5)) (V (Proc.devRef .tc main_v191_4)))) (V (Proc.devRef .tc main_v191_4)))
        (V (Proc.devRef .tc main_v191_4)) := rfl

/-! ## At an index -/

section At
variable (k : ℕ) (hk : k < 500)
include hk

theorem wrap_toInt (j : S_.Idx) : (wrap (constantI S_ 32 (BitVec.ofNat 32 k)) j).toInt = (k : ℤ) := by
  exact toInt_wrap_ofNat k (by omega)

theorem starts2 (a : Fin 2) : (((![constantI S_ 32 0#32, wrap (constantI S_ 32 (BitVec.ofNat 32 k))] : Fin 2 → IVec S_ 32)) a (Shape.Idx.first h_S_)).toInt
    = ((![0, k] : Fin 2 → ℕ) a : ℤ) := by
  fin_cases a
  · rfl
  · exact wrap_toInt k hk _

theorem starts3 (a : Fin 3) : (((![constantI S_ 32 0#32, constantI S_ 32 0#32, wrap (constantI S_ 32 (BitVec.ofNat 32 k))] : Fin 3 → IVec S_ 32)) a (Shape.Idx.first h_S_)).toInt
    = ((![0, 0, k] : Fin 3 → ℕ) a : ℤ) := by
  fin_cases a
  · rfl
  · rfl
  · exact wrap_toInt k hk _

theorem fits2 : S80x500.Slices ![0, k] S80x1 := ⟨rfl, fun a => by fin_cases a <;> simp <;> omega⟩
theorem fits3 : S80x500x500.Slices ![0, 0, k] S80x500x1 := ⟨rfl, fun a => by fin_cases a <;> simp <;> omega⟩

theorem column_apply (I : FVec Ideal S80x500x500 .f32) (q : Fin 80) (j : Fin 500) :
    column I (constantI S_ 32 (BitVec.ofNat 32 k)) (ix2 q j) = I (ix3 q j ⟨k, hk⟩) := by
  unfold column
  rw [Host.dynamicSlice_eq_extractStridedSlice S80x500x1 I _ ![0, 0, k] _ (fits3 k hk) (starts3 k hk)]
  pointwise

theorem decided_apply (valid : IVec S80x500 1) (h : IVec S80 1) (q : Fin 80) :
    decided valid h (constantI S_ 32 (BitVec.ofNat 32 k)) (ix2 q 0) = IntOp.andi (valid (ix2 q ⟨k, hk⟩)) (~~~ h (ix1 q)) := by
  unfold decided
  rw [Host.dynamicSlice_eq_extractStridedSlice S80x1 valid _ ![0, k] _ (fits2 k hk) (starts2 k hk)]
  pointwise

theorem written_apply (keep : IVec S80x500 1) (d : IVec S80x1 1) (q : Fin 80) (j : Fin 500) :
    written keep d (constantI S_ 32 (BitVec.ofNat 32 k)) (ix2 q j) = if j.val = k then d (ix2 q 0) else keep (ix2 q j) := by
  unfold written
  rw [WordCmp.dynamicUpdateSlice_eq_update keep d _ _ ![0, k] (fits2 k hk) (starts2 k hk)]
  pointwise
  by_cases h : j.val = k
  · rw [dif_pos (by omega), if_pos h]
    exact congrArg (fun x => d (ix2 q x)) (Subsingleton.elim _ _)
  · rw [dif_neg (by omega), if_neg h]
end At

theorem hitting_apply (I : FVec Ideal S80x500x500 .f32) (iota : IVec S500 32) (keep : IVec S80x500 1) (i : IVec S_ 32) (q : Fin 80) (j : Fin 500) :
    hitting I iota keep i (ix2 q j) = IntOp.andi (IntOp.andi (keep (ix2 q j)) (Ideal.cmp .ogt (column I i (ix2 q j)) Scalars.half))
      (IntOp.cmpi .slt (iota (ix1 j)) (i ix0)) := by
  pointwise [hitting]
  rfl

theorem struck_apply (M : IVec S80x500 1) (q : Fin 80) : struck M (ix1 q) = 1#1 ↔ ∃ j, M (ix2 q j) = 1#1 := by
  have : struck M (ix1 q) = Finset.fold IntOp.ori (0#1) (fun j => M (ix2 q j)) Finset.univ := by
    pointwise [struck]
  rw [this, Routing.fold_ori]
  simp

theorem ofNat_slt (a b : ℕ) (ha : a < 500) (hb : b < 500) : IntOp.cmpi .slt (BitVec.ofNat 32 a) (BitVec.ofNat 32 b) = 1#1 ↔ a < b := by
  have e : IntOp.cmpi .slt (BitVec.ofNat 32 a) (BitVec.ofNat 32 b) = BitVec.ofBool (decide (a < b)) := by
    show BitVec.ofBool (BitVec.slt _ _) = _
    rw [BitVec.slt_eq_decide, WordCmp.toInt_ofNat_of_lt (by omega), WordCmp.toInt_ofNat_of_lt (by omega)]
    simp
  rw [e]
  by_cases h : a < b <;> simp [h]

theorem and_one (a b : BitVec 1) : IntOp.andi a b = 1#1 ↔ a = 1#1 ∧ b = 1#1 := by
  rcases BitVec.eq_zero_or_eq_one a with rfl | rfl <;> rcases BitVec.eq_zero_or_eq_one b with rfl | rfl <;> decide

theorem not_one (a : BitVec 1) : ~~~ a = 1#1 ↔ ¬ a = 1#1 := by
  rcases BitVec.eq_zero_or_eq_one a with rfl | rfl <;> decide

theorem gt_one (x y : EReal) : Ideal.cmp .ogt x y = 1#1 ↔ y < x := by
  show BitVec.ofBool (decide (y < x)) = 1#1 ↔ y < x
  by_cases h : y < x <;> simp [h]

/-- One trip: the mask goes on holding exactly the candidates kept. -/
theorem trip (I : FVec Ideal S80x500x500 .f32) (iota : IVec S500 32) (hiota : ∀ j, iota (ix1 j) = BitVec.ofNat 32 j.val)
    (valid keep : IVec S80x500 1) (k : ℕ) (hk : k < 500)
    (ih : ∀ q j, keep (ix2 q j) = 1#1 ↔ kept (fun j => valid (ix2 q j) = 1#1) (fun l j => Scalars.half < I (ix3 q l j)) k j) (q : Fin 80) (j : Fin 500) :
    written keep (decided valid (struck (hitting I iota keep (constantI S_ 32 (BitVec.ofNat 32 k)))) (constantI S_ 32 (BitVec.ofNat 32 k)))
        (constantI S_ 32 (BitVec.ofNat 32 k)) (ix2 q j) = 1#1
      ↔ kept (fun j => valid (ix2 q j) = 1#1) (fun l j => Scalars.half < I (ix3 q l j)) (k + 1) j := by
  rw [written_apply k hk]
  by_cases h : j.val = k
  · obtain rfl : j = ⟨k, hk⟩ := Fin.ext h
    simp only [kept, if_true, decided_apply k hk, and_one, not_one, struck_apply, hitting_apply, gt_one, column_apply k hk, ih, hiota]
    refine and_congr_right fun _ => not_congr (exists_congr fun l => ?_)
    constructor
    · rintro ⟨⟨a, b⟩, _⟩
      exact ⟨b, a⟩
    · rintro ⟨b, a⟩
      refine ⟨⟨a, b⟩, ?_⟩
      refine (ofNat_slt _ _ l.isLt hk).2 ?_
      by_contra hn
      exact not_kept _ _ _ _ (by omega) a
  · simp only [h, if_false, kept, ih]

/-! ## The loop -/

open Cert.ReferenceIdeal.Value Cert.ReferenceIdeal.Stages

/-- What the carried buffers hold after some trips. -/
theorem trips (V : Valuation τ sig (Elt Ideal)) (I : FVec Ideal S80x500x500 .f32) (valid : IVec S80x500 1)
    (h0 : V (Proc.devRef .tc main_v191_0) = I) (h1 : ∀ j, (V (Proc.devRef .tc main_v191_1) : IVec S500 32) (ix1 j) = BitVec.ofNat 32 j.val)
    (h2 : V (Proc.devRef .tc main_v191_2) = valid) (h4 : V (Proc.devRef .tc main_v191_4) = constantI S_ 32 0#32)
    (h5 : ∀ j, (V (Proc.devRef .tc main_v191_5) : IVec S80x500 1) j = 0#1) (k : ℕ) (hk : k ≤ 500) :
    (STEP^[k] V) (Proc.devRef .tc main_v191_0) = I
      ∧ (STEP^[k] V) (Proc.devRef .tc main_v191_1) = V (Proc.devRef .tc main_v191_1)
      ∧ (STEP^[k] V) (Proc.devRef .tc main_v191_2) = valid
      ∧ (STEP^[k] V) (Proc.devRef .tc main_v191_4) = constantI S_ 32 (BitVec.ofNat 32 k)
      ∧ ∀ q j, ((STEP^[k] V) (Proc.devRef .tc main_v191_5) : IVec S80x500 1) (ix2 q j) = 1#1
          ↔ kept (fun j => valid (ix2 q j) = 1#1) (fun l j => Scalars.half < I (ix3 q l j)) k j := by
  induction k with
  | zero =>
    refine ⟨h0, rfl, h2, h4, fun q j => ?_⟩
    simp only [Function.iterate_zero, id, h5, kept]
    exact iff_of_false (fun h => absurd (show (0#1 : BitVec 1) = 1#1 from h) (by decide)) id
  | succ k ih =>
    obtain ⟨i0, i1, i2, i4, i5⟩ := ih (by omega)
    simp only [Function.iterate_succ_apply', STEP_main_v191_0, STEP_main_v191_1, STEP_main_v191_2, STEP_main_v191_4, STEP_main_v191_5]
    refine ⟨i0, i1, i2, ?_, fun q j => ?_⟩
    · show addi ((STEP^[k] V) (Proc.devRef .tc main_v191_4)) (constantI S_ 32 1#32) = _
      rw [i4]
      funext x
      show BitVec.ofNat 32 k + 1#32 = BitVec.ofNat 32 (k + 1)
      rw [BitVec.ofNat_add]
    · rw [STEP_main_v191_5, step_eq, i0, i1, i2, i4]
      exact trip I _ h1 valid _ k (by omega) i5 q j

end Cert.ReferenceIdeal.Loop

end
-- ==== Proof.RefResults.lean ====
/-
  The reference's three results as functions of its arguments and of its mask, and the mask at an index.
-/
module

public import proofs.«01_k».proof.Proof.Candidates
public import proofs.«01_k».proof.Proof.RefHost
public import proofs.«01_k».proof.Proof.RefLoop

@[expose] public section

set_option maxRecDepth 16384

noncomputable section

namespace Cert.ReferenceIdeal.Results

open Cert.ReferenceIdeal Cert.ReferenceIdeal.Gen Cert.ReferenceIdeal.Terms Cert.ReferenceIdeal.Stages Cert.ReferenceIdeal.Value
open Cert.ReferenceIdeal.HostSteps Cert.ReferenceIdeal.Dense
open Idealize.ShloMosaic Idealize.ShloMosaic.TcCoe Idealize.ShloMosaic.Tactic Idealize.ShloMosaic.StableHlo
open Cert.Agree Cert.Greedy

theorem s0_cst_18 (V : Valuation τ sig (Elt Ideal)) : after hostOps0 V (Proc.devRef .tc main_cst_18) = constant (F := Ideal) S_ .f32 0x00000000#32 := by
  after_reads_simp
theorem s0_cst_19 (V : Valuation τ sig (Elt Ideal)) : after hostOps0 V (Proc.devRef .tc main_cst_19) = constant (F := Ideal) S_ .f32 0x44A68000#32 := by
  after_reads_simp

variable (m : (ℓ : Loc nD τ sig) → Buf (Elt Ideal) ℓ) (c : Dev nD)

/-- The three arguments. -/
abbrev logits : FVec Ideal S20000x81 .f32 := m ((c.tc : Thread nD τ).loc main_arg0)
abbrev shifts : FVec Ideal S20000x324 .f32 := m ((c.tc : Thread nD τ).loc main_arg1)
abbrev proposals : FVec Ideal S20000x4 .f32 := m ((c.tc : Thread nD τ).loc main_arg2)

theorem a_v10 : A0 m c (Proc.devRef .tc main_v10) = probs (logits m c) := s0_v10 _
theorem a_v91 : A0 m c (Proc.devRef .tc main_v91) = ends (shifts m c) (proposals m c) := s0_v91 _
theorem a_v94 : A1 m c (Proc.devRef .tc main_v94) = clip 0x44A68000#32 (pick 0 slices_S20000x81x4_S20000x81x1_0_0_0 (ends (shifts m c) (proposals m c))) :=
  (s1_v94 _ (s0_cst_18 _) (s0_cst_19 _)).trans (congrArg (clip 0x44A68000#32) (s0_v93 _))
theorem a_v97 : A3 m c (Proc.devRef .tc main_v97) = clip 0x4447C000#32 (pick 1 slices_S20000x81x4_S20000x81x1_0_0_1 (ends (shifts m c) (proposals m c))) := by
  have h : A1 m c (Proc.devRef .tc main_v91) = ends (shifts m c) (proposals m c) := (A1_of (by decide)).trans (a_v91 m c)
  rw [← h]
  exact s3_v97 (A1 m c)
theorem a_v100 : A5 m c (Proc.devRef .tc main_v100) = clip 0x44A68000#32 (pick 2 slices_S20000x81x4_S20000x81x1_0_0_2 (ends (shifts m c) (proposals m c))) := by
  have h : A3 m c (Proc.devRef .tc main_v91) = ends (shifts m c) (proposals m c) :=
    (A3_of (by decide)).trans <| (A2_of (by decide)).trans <| (A1_of (by decide)).trans (a_v91 m c)
  rw [← h]
  exact s5_v100 (A3 m c)
theorem a_v103 : A7 m c (Proc.devRef .tc main_v103) = clip 0x4447C000#32 (pick 3 slices_S20000x81x4_S20000x81x1_0_0_3 (ends (shifts m c) (proposals m c))) := by
  have h : A5 m c (Proc.devRef .tc main_v91) = ends (shifts m c) (proposals m c) :=
    (A5_of (by decide)).trans <| (A4_of (by decide)).trans <| (A3_of (by decide)).trans <| (A2_of (by decide)).trans <| (A1_of (by decide)).trans (a_v91 m c)
  rw [← h]
  exact s7_v103 (A5 m c)
theorem a_v112 : A8 m c (Proc.devRef .tc main_v112) = boxes (decoded (shifts m c) (proposals m c)) := by
  have h1 : A7 m c (Proc.devRef .tc main_v94) = _ := (A7_of (by decide)).trans <| (A6_of (by decide)).trans <| (A5_of (by decide)).trans <|
    (A4_of (by decide)).trans <| (A3_of (by decide)).trans <| (A2_of (by decide)).trans (a_v94 m c)
  have h2 : A7 m c (Proc.devRef .tc main_v97) = _ := (A7_of (by decide)).trans <| (A6_of (by decide)).trans <| (A5_of (by decide)).trans <|
    (A4_of (by decide)).trans (a_v97 m c)
  have h3 : A7 m c (Proc.devRef .tc main_v100) = _ := (A7_of (by decide)).trans <| (A6_of (by decide)).trans (a_v100 m c)
  have h := s8_v112 (A7 m c)
  rw [h1, h2, h3, a_v103 m c] at h
  exact h
theorem a_v115 : A9 m c (Proc.devRef .tc main_v115) = chosen (logits m c) := by
  have h1 : A7 m c (Proc.devRef .tc main_v10) = _ := (A7_of (by decide)).trans <| (A6_of (by decide)).trans <| (A5_of (by decide)).trans <|
    (A4_of (by decide)).trans <| (A3_of (by decide)).trans <| (A2_of (by decide)).trans <| (A1_of (by decide)).trans (a_v10 m c)
  have h := s9_v115 (A7 m c)
  rw [h1] at h
  exact h
theorem a_values : A10 m c (Proc.devRef .tc main_values) = best (logits m c) := by
  have h := s10_values (A9 m c)
  rw [a_v115 m c] at h
  exact h
theorem a_v117 : A10 m c (Proc.devRef .tc main_v117) = valid (best (logits m c)) := by
  have h := s10_v117 (A9 m c)
  rw [a_v115 m c] at h
  exact h
theorem a_v119 : A11 m c (Proc.devRef .tc main_v119) = found (logits m c) (shifts m c) (proposals m c) := by
  have h := s10_v118 (A9 m c)
  rw [a_v115 m c] at h
  have h2 := s11_v119 (A10 m c) h
  have h3 : A10 m c (Proc.devRef .tc main_v112) = _ := (A10_of (by decide)).trans <| (A9_of (by decide)).trans (a_v112 m c)
  rw [h3] at h2
  exact h2

/-- The mask that the loop leaves. -/
def mask : IVec S80x500 1 := L0 m c (Proc.devRef .tc main_v191_5)

/-- The mask holds the candidates that the greedy suppression keeps. -/
theorem mask_apply (q : Fin 80) (j : Fin 500) : mask m c (ix2 q j) = 1#1
    ↔ kept (fun j => valid (best (logits m c)) (ix2 q j) = 1#1)
        (fun l j => Scalars.half < iou (found (logits m c) (shifts m c) (proposals m c)) (ix3 q l j)) 500 j := by
  have e : mask m c = (STEP^[500] (A12 m c)) (Proc.devRef .tc main_v191_5) :=
    (cond_keeps (atK m 500 c) main_v191_5 (by decide)).trans (atK_agree m c 500 main_v191_5 (by decide))
  rw [e]
  refine (Loop.trips (A12 m c) _ _ ?_ ?_ ?_ ?_ ?_ 500 le_rfl).2.2.2.2 q j
  · exact (s12_v191_0 (A11 m c)).trans (congrArg iou (a_v119 m c))
  · exact s12_v191_1 (A11 m c)
  · exact (s12_v191_2 (A11 m c)).trans ((A11_of (by decide)).trans (a_v117 m c))
  · exact s12_v191_4 (A11 m c)
  · exact s12_v191_5 (A11 m c)

theorem b_v192 : B1 m c (Proc.devRef .tc main_v192)
    = select (mask m c) (best (logits m c)) (broadcastInDim S80x500 ![] bcast_S_S80x500 (constant (F := Ideal) S_ .f32 0xFF800000#32)) := by
  have h := s14_v192 (L0 m c)
  have h1 : L0 m c (Proc.devRef .tc main_values) = best (logits m c) :=
    (L0_of (by decide) (by decide)).trans <| (A12_of (by decide)).trans <| (A11_of (by decide)).trans (a_values m c)
  rw [h1] at h
  exact h
theorem b_v119 : B1 m c (Proc.devRef .tc main_v119) = found (logits m c) (shifts m c) (proposals m c) :=
  (B1_of (by decide)).trans <| (B0_of (by decide)).trans <| (L0_of (by decide) (by decide)).trans <| (A12_of (by decide)).trans (a_v119 m c)

theorem r_scores : B2 m c (Proc.devRef .tc main_values_39) = outScores (mask m c) (best (logits m c)) := s15_scores (B1 m c) (b_v192 m c)
theorem r_boxes : B2 m c (Proc.devRef .tc main_v207) = outBoxes (found (logits m c) (shifts m c) (proposals m c)) (mask m c) (best (logits m c)) :=
  (s15_boxes (B1 m c) (b_v192 m c)).trans (congrArg (outBoxes · (mask m c) (best (logits m c))) (b_v119 m c))
theorem r_labels : B2 m c (Proc.devRef .tc main_v214) = outLabels (mask m c) (best (logits m c)) := s15_labels (B1 m c) (b_v192 m c)

end Cert.ReferenceIdeal.Results

end
-- ==== Proof.lean ====
/-
  The certificate of the detection kernel: its frames, the reference's, and the equality of the three results over the
  extended reals wherever no proposal has a negative width or height.

  Both programs come to the same functions of the same candidates (Proof/KernelResults.lean, Proof/RefResults.lean); what
  is left here is that their masks agree, the one test of overlap being a product and the other a quotient.
-/
module

public import proofs.«01_k».proof.Defs
public import proofs.«01_k».proof.Proof.Gen.Kernel.Frame
public import proofs.«01_k».proof.Proof.KernelRun
public import proofs.«01_k».proof.Proof.KernelResults
public import proofs.«01_k».proof.Proof.RefResults

@[expose] public section

set_option maxRecDepth 16384

noncomputable section

namespace Cert.Proof

open Idealize.ShloMosaic Idealize.ShloMosaic.TcCoe Idealize.ShloMosaic.Tactic Idealize.SL.Sem
open Cert.Agree Cert.Greedy

/-- The precondition's shape facts. -/
theorem preFacts : Cert.Pre_boxes_ordered.Facts where
  slices_S20000x4_S20000x1_0_2 := by decide
  slices_S20000x4_S20000x1_0_0 := by decide
  bcast_S_S20000x1 := by decide
  slices_S20000x4_S20000x1_0_3 := by decide
  slices_S20000x4_S20000x1_0_1 := by decide

/-- What the precondition says of the proposals. -/
theorem ordered_of (L : FVec Ideal Cert.ReferenceIdeal.S20000x81 .f32) (D : FVec Ideal Cert.ReferenceIdeal.S20000x324 .f32)
    (P : FVec Ideal Cert.ReferenceIdeal.S20000x4 .f32) (h : @Cert.Pre_boxes_ordered.fn preFacts Ideal _ L D P = fun _ => 1#1) : Ordered P := by
  intro n
  have e := congrFun h (ix2 n 0)
  have e2 : @Cert.Pre_boxes_ordered.fn preFacts Ideal _ L D P (ix2 n 0)
      = IntOp.andi (Ideal.cmp .oge (Scalars.size (P (ix2 n 0)) (P (ix2 n 2))) 0) (Ideal.cmp .oge (Scalars.size (P (ix2 n 1)) (P (ix2 n 3))) 0) := by
    pointwise [Cert.Pre_boxes_ordered.fn]
    rfl
  rw [e2] at e
  obtain ⟨e0, e1⟩ := (Cert.ReferenceIdeal.Loop.and_one _ _).1 e
  exact ⟨(WordCmp.ofBool_decide_eq_one_iff _).1 e0, (WordCmp.ofBool_decide_eq_one_iff _).1 e1⟩

section Masks
variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)
  (h0 : Cert.ReferenceIdeal.Results.logits m' c = Cert.KernelIdeal.Values.logits m c)
  (h1 : Cert.ReferenceIdeal.Results.shifts m' c = Cert.KernelIdeal.Values.shifts m c)
  (h2 : Cert.ReferenceIdeal.Results.proposals m' c = Cert.KernelIdeal.Values.proposals m c)
  (hP : Ordered (Cert.KernelIdeal.Values.proposals m c))
include h0 h1 h2 hP

/-- The two masks agree. -/
theorem masks : Cert.ReferenceIdeal.Results.mask m' c = Cert.KernelIdeal.Values.mask m ρ c := by
  funext j
  obtain ⟨q, i, rfl⟩ : ∃ (q : Fin 80) (i : Fin 500), j = ix2 q i := ⟨j 0, j 1, eq_ix2 j⟩
  have a := Cert.ReferenceIdeal.Results.mask_apply m' c q i
  have b := Cert.KernelIdeal.Values.mask_apply m ρ c q i
  rw [h0, h1, h2] at a
  have t : (fun l j : Fin 500 => Scalars.half < Cert.ReferenceIdeal.Terms.iou (found (Cert.KernelIdeal.Values.logits m c) (Cert.KernelIdeal.Values.shifts m c)
        (Cert.KernelIdeal.Values.proposals m c)) (ix3 q l j))
      = fun l j => (boxOf (found (Cert.KernelIdeal.Values.logits m c) (Cert.KernelIdeal.Values.shifts m c) (Cert.KernelIdeal.Values.proposals m c)) q j).over
        (boxOf (found (Cert.KernelIdeal.Values.logits m c) (Cert.KernelIdeal.Values.shifts m c) (Cert.KernelIdeal.Values.proposals m c)) q l) :=
    funext fun l => funext fun j => propext (tests_agree _ _ hP _ q l j)
  rw [t] at a
  have ab := a.trans b.symm
  rcases BitVec.eq_zero_or_eq_one (Cert.ReferenceIdeal.Results.mask m' c (ix2 q i)) with x | x <;>
    rcases BitVec.eq_zero_or_eq_one (Cert.KernelIdeal.Values.mask m ρ c (ix2 q i)) with y | y
  · rw [x, y]
  · exact absurd (x.symm.trans (ab.2 y)) (by decide)
  · exact absurd (y.symm.trans (ab.1 x)) (by decide)
  · rw [x, y]
end Masks

/-- The kernel's results are the reference's. -/
theorem algebraic : @Cert.algebraic_KernelIdeal_ReferenceIdeal_pre_boxes_ordered Cert.KernelIdeal.Gen.facts Cert.ReferenceIdeal.Gen.facts preFacts := by
  intro m g m' g' hpre hargs
  have hm : ∀ c, Cert.ReferenceIdeal.Results.mask m' c = Cert.KernelIdeal.Values.mask m g c := fun c =>
    masks m g m' c (hargs c).1 (hargs c).2.1 (hargs c).2.2 (ordered_of _ _ _ (hpre c))
  refine ⟨fun c => Cert.ReferenceIdeal.Terms.outScores (Cert.KernelIdeal.Values.mask m g c) (best (Cert.KernelIdeal.Values.logits m c)),
    fun c => Cert.ReferenceIdeal.Terms.outBoxes (found (Cert.KernelIdeal.Values.logits m c) (Cert.KernelIdeal.Values.shifts m c) (Cert.KernelIdeal.Values.proposals m c))
      (Cert.KernelIdeal.Values.mask m g c) (best (Cert.KernelIdeal.Values.logits m c)),
    fun c => Cert.ReferenceIdeal.Terms.outLabels (Cert.KernelIdeal.Values.mask m g c) (best (Cert.KernelIdeal.Values.logits m c)), ?_, ?_⟩
  · exact (θ_run _ _ _).mono (fun r h c => ⟨(h c).1.trans (Cert.KernelIdeal.Values.r_scores m g c), (h c).2.1.trans (Cert.KernelIdeal.Values.r_boxes m g c),
      (h c).2.2.1.trans (Cert.KernelIdeal.Values.r_labels m g c), (h c).2.2.2⟩) (Cert.KernelIdeal.Results.run m g)
  · refine (θ_run _ _ _).mono (fun r h c => ?_) (Cert.ReferenceIdeal.Stages.run m' g')
    have e0 : Cert.ReferenceIdeal.Results.logits m' c = Cert.KernelIdeal.Values.logits m c := (hargs c).1
    have e1 : Cert.ReferenceIdeal.Results.shifts m' c = Cert.KernelIdeal.Values.shifts m c := (hargs c).2.1
    have e2 : Cert.ReferenceIdeal.Results.proposals m' c = Cert.KernelIdeal.Values.proposals m c := (hargs c).2.2
    have s := Cert.ReferenceIdeal.Results.r_scores m' c
    have b := Cert.ReferenceIdeal.Results.r_boxes m' c
    have l := Cert.ReferenceIdeal.Results.r_labels m' c
    rw [hm c, e0] at s l
    rw [hm c, e0, e1, e2] at b
    exact ⟨(h c).1.trans s, (h c).2.1.trans b, (h c).2.2.1.trans l, (h c).2.2.2⟩

theorem claim : Cert.Claim :=
  ⟨Cert.Kernel.Gen.facts, Cert.KernelIdeal.Gen.facts, Cert.ReferenceIdeal.Gen.facts, preFacts,
    fun m ρ _ => Cert.Kernel.Gen.frame m ρ,
    fun m ρ _ => Cert.KernelIdeal.Gen.frame m ρ,
    fun m ρ _ => Cert.KernelIdeal.Gen.frame m ρ,
    Cert.ReferenceIdeal.Stages.quiescent,
    fun m ρ _ => Cert.ReferenceIdeal.Stages.quiescent m ρ trivial,
    trivial,
    algebraic⟩

end Cert.Proof

end
